-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_tie [hPre_finite_no_tie : Cert.Pre_finite_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_tie [hPre_finite_no_tie : Cert.Pre_finite_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_no_tie [hKernelIdeal : Cert.KernelIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_no_tie [hReferenceIdeal : Cert.ReferenceIdeal.Facts] [hPre_finite_no_tie : Cert.Pre_finite_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_no_tie [hKernelIdeal : Cert.KernelIdeal.Facts] [hReferenceIdeal : Cert.ReferenceIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_no_tie : Cert.Pre_finite_no_tie.Facts),
    quiescent_Kernel (hKernel := hKernel)
    ∧ quiescent_KernelIdeal (hKernelIdeal := hKernelIdeal)
    ∧ quiescent_KernelIdeal_pre_finite_no_tie (hKernelIdeal := hKernelIdeal) (hPre_finite_no_tie := hPre_finite_no_tie)
    ∧ quiescent_ReferenceIdeal (hReferenceIdeal := hReferenceIdeal)
    ∧ quiescent_ReferenceIdeal_pre_finite_no_tie (hReferenceIdeal := hReferenceIdeal) (hPre_finite_no_tie := hPre_finite_no_tie)
    ∧ preserves_Kernel_KernelIdeal
    ∧ algebraic_KernelIdeal_ReferenceIdeal_pre_finite_no_tie (hKernelIdeal := hKernelIdeal) (hReferenceIdeal := hReferenceIdeal) (hPre_finite_no_tie := hPre_finite_no_tie)
-- ==== Pre_finite_no_tie.lean ====
abbrev S8x64x2048 : Shape := ⟨3, ![8, 64, 2048]⟩
abbrev S128x128 : Shape := ⟨2, ![128, 128]⟩
abbrev S128 : Shape := ⟨1, ![128]⟩
abbrev S8x2048x64 : Shape := ⟨3, ![8, 2048, 64]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x2048x22 : Shape := ⟨3, ![8, 2048, 22]⟩
abbrev S8x2048x21 : Shape := ⟨3, ![8, 2048, 21]⟩

class Facts : Prop where
  transposes_S8x64x2048_S8x2048x64_0_2_1 : S8x64x2048.Transposes [0, 2, 1] S8x2048x64
  reducesTo_S8x2048x64_S8x2048_d2 : S8x2048x64.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  sliceFits_S8x2048x2048_S8x2048x22 : S8x2048x2048.Slices (fun _ => 0) S8x2048x22
  bcast_S_S128x128 : S_.BroadcastsInDim S128x128 (![] : Fin 0 → Fin S128x128.rank)
  bcast_S_S128 : S_.BroadcastsInDim S128 (![] : Fin 0 → Fin S128.rank)
  slices_S8x2048x22_S8x2048x21_0_0_0 : S8x2048x22.Slices ![0, 0, 0] S8x2048x21
  slices_S8x2048x22_S8x2048x21_0_0_1 : S8x2048x22.Slices ![0, 0, 1] S8x2048x21
  dot_S8x2048x64_S8x2048x64_S8x2048x2048_2_2_1_1_0_0_wf : DotDims.WF S8x2048x64 S8x2048x64 S8x2048x2048 [2] [2] [1] [1] [0] [0]

variable [Facts]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def fn_part1 {F : FTy → Type} [FloatOps F] (main_arg2 : FVec F S128 .f32) (main_values : FVec F S8x2048x22 .f32) (main_v16 : FVec F S128x128 .f32) (main_v17 : FVec F S128x128 .f32) : IVec S128x128 1 × IVec S128 1 × IVec S8x2048x21 1 :=
  let main_v18 : IVec S128x128 1 := cmpf .olt main_v16 main_v17
  let main_v19 : FVec F S128 .f32 := Host.absf main_arg2
  let main_cst_3 : FVec F S_ .f32 := constant S_ .f32 0x7F800000#32
  let main_v20 : FVec F S128 .f32 := broadcastInDim S128 ![] bcast_S_S128 main_cst_3
  let main_v21 : IVec S128 1 := cmpf .olt main_v19 main_v20
  let main_v22 : FVec F S8x2048x21 .f32 := (extractStridedSlice S8x2048x21 ![0, 0, 0] · slices_S8x2048x22_S8x2048x21_0_0_0) main_values
  let main_v23 : FVec F S8x2048x21 .f32 := (extractStridedSlice S8x2048x21 ![0, 0, 1] · slices_S8x2048x22_S8x2048x21_0_0_1) main_values
  let main_v24 : IVec S8x2048x21 1 := cmpf .ogt main_v22 main_v23
  (main_v18, main_v21, main_v24)

def fn {F : FTy → Type} [FloatOps F] (main_arg0 : FVec F S8x64x2048 .f32) (main_arg1 : FVec F S128x128 .f32) (main_arg2 : FVec F S128 .f32) (main_arg3 : FVec F S128 .f32) (main_arg4 : FVec F S128 .f32) : IVec S128x128 1 × IVec S128 1 × IVec S8x2048x21 1 :=
  let main_v0 : FVec F S8x2048x64 .f32 := (transpose S8x2048x64 [0, 2, 1] · transposes_S8x64x2048_S8x2048x64_0_2_1) main_arg0
  let main_v1 : FVec F S8x2048x64 .f32 := mulf main_v0 main_v0
  let main_cst : FVec F S_ .f32 := constant S_ .f32 0x00000000#32
  let main_v2 : FVec F S8x2048 .f32 := (fun x v => Host.reduceAdd x v reducesTo_S8x2048x64_S8x2048_d2 h_S_) main_v1 main_cst
  let main_v3 : FVec F S8x2048x1 .f32 := broadcastInDim S8x2048x1 ![0, 1] bcast_S8x2048_S8x2048x1_0_1 main_v2
  let main_v4 : FVec F S8x1x2048 .f32 := broadcastInDim S8x1x2048 ![0, 2] bcast_S8x2048_S8x1x2048_0_2 main_v2
  let main_v5 : FVec F S8x2048x2048 .f32 := broadcastInDim S8x2048x2048 ![0, 1, 2] bcast_S8x2048x1_S8x2048x2048_0_1_2 main_v3
  let main_v6 : FVec F S8x2048x2048 .f32 := broadcastInDim S8x2048x2048 ![0, 1, 2] bcast_S8x1x2048_S8x2048x2048_0_1_2 main_v4
  let main_v7 : FVec F S8x2048x2048 .f32 := addf main_v5 main_v6
  let main_v8 : FVec F S8x2048x2048 .f32 := (fun l r => Host.dotGeneral dot_S8x2048x64_S8x2048x64_S8x2048x2048_2_2_1_1_0_0 none l r) main_v0 main_v0
  let main_cst_0 : FVec F S_ .f32 := constant S_ .f32 0x40000000#32
  let main_v9 : FVec F S8x2048x2048 .f32 := broadcastInDim S8x2048x2048 ![] bcast_S_S8x2048x2048 main_cst_0
  let main_v10 : FVec F S8x2048x2048 .f32 := mulf main_v9 main_v8
  let main_v11 : FVec F S8x2048x2048 .f32 := subf main_v7 main_v10
  let main_cst_1 : FVec F S_ .f32 := constant S_ .f32 0x00000000#32
  let main_v12 : FVec F S8x2048x2048 .f32 := broadcastInDim S8x2048x2048 ![] bcast_S_S8x2048x2048 main_cst_1
  let main_v13 : FVec F S8x2048x2048 .f32 := maximumf main_v11 main_v12
  let main_v14 : FVec F S8x2048x2048 .f32 := Host.sqrt main_v13
  let main_v15 : FVec F S8x2048x2048 .f32 := Host.negf main_v14
  let main_values : FVec F S8x2048x22 .f32 := (fun x => (Host.topK S8x2048x22 2 (FloatOps.cmpfTotal .gt) x sliceFits_S8x2048x2048_S8x2048x22).1) main_v15
  let main_indices : IVec S8x2048x22 32 := (fun x => (Host.topK S8x2048x22 2 (FloatOps.cmpfTotal .gt) x sliceFits_S8x2048x2048_S8x2048x22).2) main_v15
  let main_v16 : FVec F S128x128 .f32 := Host.absf main_arg1
  let main_cst_2 : FVec F S_ .f32 := constant S_ .f32 0x7F800000#32
  let main_v17 : FVec F S128x128 .f32 := broadcastInDim S128x128 ![] bcast_S_S128x128 main_cst_2
  fn_part1 (F := F) main_arg2 main_values main_v16 main_v17
-- ==== Kernel.lean ====
abbrev S8x64x2048 : Shape := ⟨3, ![8, 64, 2048]⟩
abbrev S128x128 : Shape := ⟨2, ![128, 128]⟩
abbrev S128 : Shape := ⟨1, ![128]⟩
abbrev S8x2048x64 : Shape := ⟨3, ![8, 2048, 64]⟩
abbrev S128x64 : Shape := ⟨2, ![128, 64]⟩
abbrev S64x128 : Shape := ⟨2, ![64, 128]⟩
abbrev S1x128 : Shape := ⟨2, ![1, 128]⟩
abbrev S8x2048x128 : Shape := ⟨3, ![8, 2048, 128]⟩
abbrev S1x2048x64 : Shape := ⟨3, ![1, 2048, 64]⟩
abbrev S1x2048x128 : Shape := ⟨3, ![1, 2048, 128]⟩
abbrev S2048x64 : Shape := ⟨2, ![2048, 64]⟩
abbrev S2048x128 : Shape := ⟨2, ![2048, 128]⟩
abbrev S1x512x64 : Shape := ⟨3, ![1, 512, 64]⟩
abbrev S1x64x2048 : Shape := ⟨3, ![1, 64, 2048]⟩
abbrev S1x512x128 : Shape := ⟨3, ![1, 512, 128]⟩
abbrev S512x2048 : Shape := ⟨2, ![512, 2048]⟩
abbrev S64x2048 : Shape := ⟨2, ![64, 2048]⟩
abbrev S512x64 : Shape := ⟨2, ![512, 64]⟩
abbrev S512x128 : Shape := ⟨2, ![512, 128]⟩
abbrev S2048 : Shape := ⟨1, ![2048]⟩
abbrev S1x2048 : Shape := ⟨2, ![1, 2048]⟩
abbrev S512x1 : Shape := ⟨2, ![512, 1]⟩
abbrev S512 : Shape := ⟨1, ![512]⟩
abbrev S8x128x2048 : Shape := ⟨3, ![8, 128, 2048]⟩

abbrev nBuf : Space → Nat
  | .hbm => 22
  | .vmem => 32
  | .smem => 0
  | _ => 0

abbrev bufTy : (tb : Table) → Fin (tcTables nBuf tb) → BufTy
  | .hbm, ⟨0, _⟩ => ⟨S8x64x2048, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S8x2048x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S64x128, .f32⟩
  | .hbm, ⟨10, _⟩ => ⟨S128x64, .f32⟩
  | .hbm, ⟨11, _⟩ => ⟨S64x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S8x2048x128, .f32⟩
  | .hbm, ⟨16, _⟩ => ⟨S8x2048x128, .f32⟩
  | .hbm, ⟨17, _⟩ => ⟨S8x2048x128, .f32⟩
  | .hbm, ⟨18, _⟩ => ⟨S1x128, .f32⟩
  | .hbm, ⟨19, _⟩ => ⟨S1x128, .f32⟩
  | .hbm, ⟨20, _⟩ => ⟨S8x2048x128, .f32⟩
  | .hbm, ⟨21, _⟩ => ⟨S8x128x2048, .f32⟩
  | .local _ .vmem, ⟨0, _⟩ => ⟨S1x2048x64, .f32⟩
  | .local _ .vmem, ⟨1, _⟩ => ⟨S1x2048x64, .f32⟩
  | .local _ .vmem, ⟨2, _⟩ => ⟨S64x128, .f32⟩
  | .local _ .vmem, ⟨3, _⟩ => ⟨S1x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x64, .f32⟩
  | .local _ .vmem, ⟨7, _⟩ => ⟨S1x512x64, .f32⟩
  | .local _ .vmem, ⟨8, _⟩ => ⟨S1x64x2048, .f32⟩
  | .local _ .vmem, ⟨9, _⟩ => ⟨S1x64x2048, .f32⟩
  | .local _ .vmem, ⟨10, _⟩ => ⟨S1x2048x64, .f32⟩
  | .local _ .vmem, ⟨11, _⟩ => ⟨S1x2048x64, .f32⟩
  | .local _ .vmem, ⟨12, _⟩ => ⟨S1x512x128, .f32⟩
  | .local _ .vmem, ⟨13, _⟩ => ⟨S1x512x128, .f32⟩
  | .local _ .vmem, ⟨14, _⟩ => ⟨S64x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x128, .f32⟩
  | .local _ .vmem, ⟨20, _⟩ => ⟨S1x128, .f32⟩
  | .local _ .vmem, ⟨21, _⟩ => ⟨S512x2048, .f32⟩
  | .local _ .vmem, ⟨22, _⟩ => ⟨S1x512x128, .f32⟩
  | .local _ .vmem, ⟨23, _⟩ => ⟨S1x512x128, .f32⟩
  | .local _ .vmem, ⟨24, _⟩ => ⟨S1x512x128, .f32⟩
  | .local _ .vmem, ⟨25, _⟩ => ⟨S1x512x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x512x128, .f32⟩
  | .local _ .vmem, ⟨31, _⟩ => ⟨S1x512x128, .f32⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg8_0 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem8_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== ReferenceIdeal.lean ====
abbrev S8x64x2048 : Shape := ⟨3, ![8, 64, 2048]⟩
abbrev S128x128 : Shape := ⟨2, ![128, 128]⟩
abbrev S128 : Shape := ⟨1, ![128]⟩
abbrev S8x2048x64 : Shape := ⟨3, ![8, 2048, 64]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x2048x21 : Shape := ⟨3, ![8, 2048, 21]⟩
abbrev S8x2048x20 : Shape := ⟨3, ![8, 2048, 20]⟩
abbrev S8x2048x20x1 : Shape := ⟨4, ![8, 2048, 20, 1]⟩
abbrev S8x2048x20x64 : Shape := ⟨4, ![8, 2048, 20, 64]⟩
abbrev S8x2048x1x64 : Shape := ⟨4, ![8, 2048, 1, 64]⟩
abbrev S8x2048x20x128 : Shape := ⟨4, ![8, 2048, 20, 128]⟩
abbrev S1x1x1x128 : Shape := ⟨4, ![1, 1, 1, 128]⟩
abbrev S8x2048x128 : Shape := ⟨3, ![8, 2048, 128]⟩
abbrev S8x128x2048 : Shape := ⟨3, ![8, 128, 2048]⟩

abbrev nBuf : Space → Nat
  | .hbm => 95
  | .vmem => 0
  | .smem => 0
  | _ => 0

abbrev bufTy : (tb : Table) → Fin (tcTables nBuf tb) → BufTy
  | .hbm, ⟨0, _⟩ => ⟨S8x64x2048, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S8x2048x64, .f32⟩
  | .hbm, ⟨6, _⟩ => ⟨S8x2048x64, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S8x1x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x21, .f32⟩
  | .hbm, ⟨25, _⟩ => ⟨S8x2048x21, .i32⟩
  | .hbm, ⟨26, _⟩ => ⟨S8x2048x20, .i32⟩
  | .hbm, ⟨27, _⟩ => ⟨S_, .i32⟩
  | .hbm, ⟨28, _⟩ => ⟨S8x2048x20, .i32⟩
  | .hbm, ⟨29, _⟩ => ⟨S8x2048x20, .i1⟩
  | .hbm, ⟨30, _⟩ => ⟨S_, .i32⟩
  | .hbm, ⟨31, _⟩ => ⟨S8x2048x20, .i32⟩
  | .hbm, ⟨32, _⟩ => ⟨S8x2048x20, .i32⟩
  | .hbm, ⟨33, _⟩ => ⟨S8x2048x20, .i32⟩
  | .hbm, ⟨34, _⟩ => ⟨S8x2048x20x1, .i32⟩
  | .hbm, ⟨35, _⟩ => ⟨S8x2048x20x64, .f32⟩
  | .hbm, ⟨36, _⟩ => ⟨S8x2048x1x64, .f32⟩
  | .hbm, ⟨37, _⟩ => ⟨S8x2048x20x64, .f32⟩
  | .hbm, ⟨38, _⟩ => ⟨S8x2048x20x64, .f32⟩
  | .hbm, ⟨39, _⟩ => ⟨S8x2048x20x64, .f32⟩
  | .hbm, ⟨40, _⟩ => ⟨S8x2048x20x128, .f32⟩
  | .hbm, ⟨41, _⟩ => ⟨S8x2048x20x128, .f32⟩
  | .hbm, ⟨42, _⟩ => ⟨S1x1x1x128, .f32⟩
  | .hbm, ⟨43, _⟩ => ⟨S8x2048x20x128, .f32⟩
  | .hbm, ⟨44, _⟩ => ⟨S8x2048x20x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x1x1x128, .f32⟩
  | .hbm, ⟨54, _⟩ => ⟨S_, .f32⟩
  | .hbm, ⟨55, _⟩ => ⟨S1x1x1x128, .f32⟩
  | .hbm, ⟨56, _⟩ => ⟨S1x1x1x128, .f32⟩
  | .hbm, ⟨57, _⟩ => ⟨S8x2048x20x128, .f32⟩
  | .hbm, ⟨58, _⟩ => ⟨S8x2048x20x128, .f32⟩
  | .hbm, ⟨59, _⟩ => ⟨S8x2048x20x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x1x1x128, .f32⟩
  | .hbm, ⟨74, _⟩ => ⟨S8x2048x20x128, .f32⟩
  | .hbm, ⟨75, _⟩ => ⟨S8x2048x20x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x1x1x128, .f32⟩
  | .hbm, ⟨81, _⟩ => ⟨S8x2048x20x128, .f32⟩
  | .hbm, ⟨82, _⟩ => ⟨S8x2048x20x128, .f32⟩
  | .hbm, ⟨83, _⟩ => ⟨S1x1x1x128, .f32⟩
  | .hbm, ⟨84, _⟩ => ⟨S8x2048x20x128, .f32⟩
  | .hbm, ⟨85, _⟩ => ⟨S8x2048x20x128, .f32⟩
  | .hbm, ⟨86, _⟩ => ⟨S1x1x1x128, .f32⟩
  | .hbm, ⟨87, _⟩ => ⟨S8x2048x20x128, .f32⟩
  | .hbm, ⟨88, _⟩ => ⟨S8x2048x20x128, .f32⟩
  | .hbm, ⟨89, _⟩ => ⟨S_, .f32⟩
  | .hbm, ⟨90, _⟩ => ⟨S8x2048x20x128, .f32⟩
  | .hbm, ⟨91, _⟩ => ⟨S8x2048x20x128, .f32⟩
  | .hbm, ⟨92, _⟩ => ⟨S_, .f32⟩
  | .hbm, ⟨93, _⟩ => ⟨S8x2048x128, .f32⟩
  | .hbm, ⟨94, _⟩ => ⟨S8x128x2048, .f32⟩
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_6 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_7 : Ref sig .tc := ⟨.hbm, 89, rfl⟩
abbrev main_v52 : Ref sig .tc := ⟨.hbm, 90, rfl⟩
abbrev main_v53 : Ref sig .tc := ⟨.hbm, 91, rfl⟩
abbrev main_cst_8 : Ref sig .tc := ⟨.hbm, 92, rfl⟩
abbrev main_v54 : Ref sig .tc := ⟨.hbm, 93, rfl⟩
abbrev main_v55 : Ref sig .tc := ⟨.hbm, 94, rfl⟩

abbrev nD : Nat := 1
abbrev τ : Topo := Topo.v7x

variable {F : FTy → Type} [FloatOps F]
-- ==== Proof.Launched.lean ====
module

public import proofs.«01_k».proof.Proof.Gen.KernelIdeal.Frame

@[expose] public section

/-! The kernel's run: besides its arguments, its result array ends at what the last stretch of host
    operations leaves in it. -/

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with its result array at the last boundary's contents and its
    argument arrays unchanged. -/
theorem run : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v13 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Launched

end
-- ==== Proof.Select.lean ====
module

public import proofs.«01_k».proof.Proof.Gen.KernelIdeal.Frame
public import Idealize.ShloMosaic.Lib.Pipeline.Value
public import Idealize.ShloMosaic.Lib.Tactic

@[expose] public section

/-! What one grid point of the selection region leaves in its four output blocks, as a recursion on
    the number of selection steps: the threshold after each step, the value of the neighbours picked
    at each step, and the four running folds of those values. -/

noncomputable section

namespace Cert.KernelIdeal.Select

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The next threshold: in each row, the least entry of `t` above the threshold `p`. -/
def next (t : FVec F S512x2048 .f32) (p : FVec F S512x1 .f32) : FVec F S512x1 .f32 :=
  shapeCast S512x1 (multiReduction .minimumf [1] S512
    (select (cmpf .ogt t (broadcastTo S512x2048 p broadcasts_S512x1_S512x2048)) t
      (broadcast S512x2048 (Scalar.ofBits .f32 0x7F800000#32)) : FVec F S512x2048 .f32)
    0x7F800000#32 reduces_S512x2048_S512 (.inl rfl) rfl) shapeCasts_S512_S512x1

/-- The threshold after `j` selection steps. -/
def lev (t : FVec F S512x2048 .f32) : ℕ → FVec F S512x1 .f32
  | 0 => broadcast S512x1 (Scalar.ofBits .f32 0xFF800000#32)
  | j + 1 => next t (lev t j)

/-- The value of the entries of `t` equal to the threshold `p`: their rows of `v5` summed, times `v9`, plus `v7`. -/
def pick (t : FVec F S512x2048 .f32) (v5 : FVec F S2048x64 .f32) (v7 : FVec F S512x128 .f32) (v9 : FVec F S64x128 .f32)
    (p : FVec F S512x1 .f32) : FVec F S512x128 .f32 :=
  addf v7 (matmul dot_S512x64_S64x128_S512x128_1_0_0_1_n_n none
    (matmul dot_S512x2048_S2048x64_S512x64_1_0_0_1_n_n none
      (sitofp .f32 (extui 32 (cmpf .oeq t (broadcastTo S512x2048 p broadcasts_S512x1_S512x2048)) natLt_1_32))
      v5 (constant S512x64 .f32 0x00000000#32)) v9 (constant S512x128 .f32 0x00000000#32))

/-- The fold of the first `n` of `y` by `op` from `z`. -/
def fold {α : Type} (op : α → α → α) (z : α) (y : ℕ → α) : ℕ → α
  | 0 => z
  | n + 1 => op (fold op z y n) (y n)

/-- The value of the neighbour after next selection step `j`, from the point's blocks: step 0 picks the point itself. -/
def nb (x0 : Vec F S1x512x64 .f32) (x1 : Vec F S1x64x2048 .f32) (x2 : Vec F S1x2048x64 .f32) (x3 : Vec F S1x512x128 .f32) (x4 : Vec F S64x128 .f32) (j : ℕ) :
    FVec F S512x128 .f32 :=
  pick (k1_pay5 x1 x0) (k1_pay2 x2) (k1_pay3 x3) (k1_pay4 x4) (lev (k1_pay5 x1 x0) (j + 2))

section Blocks

variable (c : Dev nD) (i : grid1.Coords) (arg2 : Memref sig .tc .vmem S1x512x64 .f32) (harg2 : arg2.IsWhole) (arg3 : Memref sig .tc .vmem S1x64x2048 .f32) (harg3 : arg3.IsWhole) (arg4 : Memref sig .tc .vmem S1x2048x64 .f32) (harg4 : arg4.IsWhole) (arg5 : Memref sig .tc .vmem S1x512x128 .f32) (harg5 : arg5.IsWhole) (arg6 : Memref sig .tc .vmem S64x128 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x2048 .f32) (harg11 : arg11.IsWhole)
  (x0 : Vec F S1x512x64 .f32) (x1 : Vec F S1x64x2048 .f32) (x2 : Vec F S1x2048x64 .f32) (x3 : Vec F S1x512x128 .f32) (x4 : Vec F S64x128 .f32)

/-- What the first grid point leaves in its four output blocks: its sums start at zero. -/
theorem out_A (hc0 : cond1_0 i) :
    (out1_A_5 c i arg2 harg2 arg3 harg3 arg4 harg4 arg5 harg5 arg6 harg6 arg7 harg7 arg8 harg8 arg9 harg9 arg10 harg10 arg11 harg11 hc0 x0 x1 x2 x3 x4,
      out1_A_6 c i arg2 harg2 arg3 harg3 arg4 harg4 arg5 harg5 arg6 harg6 arg7 harg7 arg8 harg8 arg9 harg9 arg10 harg10 arg11 harg11 hc0 x0 x1 x2 x3 x4,
      out1_A_7 c i arg2 harg2 arg3 harg3 arg4 harg4 arg5 harg5 arg6 harg6 arg7 harg7 arg8 harg8 arg9 harg9 arg10 harg10 arg11 harg11 hc0 x0 x1 x2 x3 x4,
      out1_A_8 c i arg2 harg2 arg3 harg3 arg4 harg4 arg5 harg5 arg6 harg6 arg7 harg7 arg8 harg8 arg9 harg9 arg10 harg10 arg11 harg11 hc0 x0 x1 x2 x3 x4)
    = (shapeCast S1x512x128 (fold maximumf (k1_pay6 (F := F)) (nb x0 x1 x2 x3 x4) 20) shapeCasts_S512x128_S1x512x128,
       shapeCast S1x512x128 (fold minimumf (k1_pay7 (F := F)) (nb x0 x1 x2 x3 x4) 20) shapeCasts_S512x128_S1x512x128,
       addf (shapeCast S1x128 (k1_pay90 (F := F)) shapeCasts_S1x128_S1x128) (shapeCast S1x128 (multiReduction .add [0] S128 (fold addf (k1_pay8 (F := F)) (nb x0 x1 x2 x3 x4) 20) 0x00000000#32 reduces_S512x128_S128 (.inl rfl) rfl : FVec F S128 .f32) shapeCasts_S128_S1x128),
       addf (shapeCast S1x128 (k1_pay91 (F := F)) shapeCasts_S1x128_S1x128) (shapeCast S1x128 (multiReduction .add [0] S128 (fold addf (k1_pay9 (F := F)) (fun j => mulf (nb x0 x1 x2 x3 x4 j) (nb x0 x1 x2 x3 x4 j)) 20) 0x00000000#32 reduces_S512x128_S128 (.inl rfl) rfl : FVec F S128 .f32) shapeCasts_S128_S1x128)) := by
  refine congrArg₂ Prod.mk ((View.read_writes_eq_canon _ _ _ (cover1_A_5 c i arg2 harg2 arg3 harg3 arg4 harg4 arg5 harg5 arg6 harg6 arg7 harg7 arg8 harg8 arg9 harg9 arg10 harg10 arg11 harg11 hc0 x0 x1 x2 x3 x4)).trans ?_)
    (congrArg₂ Prod.mk ((View.read_writes_eq_canon _ _ _ (cover1_A_6 c i arg2 harg2 arg3 harg3 arg4 harg4 arg5 harg5 arg6 harg6 arg7 harg7 arg8 harg8 arg9 harg9 arg10 harg10 arg11 harg11 hc0 x0 x1 x2 x3 x4)).trans ?_)
    (congrArg₂ Prod.mk ((View.read_writes_eq_canon _ _ _ (cover1_A_7 c i arg2 harg2 arg3 harg3 arg4 harg4 arg5 harg5 arg6 harg6 arg7 harg7 arg8 harg8 arg9 harg9 arg10 harg10 arg11 harg11 hc0 x0 x1 x2 x3 x4)).trans ?_)
      ((View.read_writes_eq_canon _ _ _ (cover1_A_8 c i arg2 harg2 arg3 harg3 arg4 harg4 arg5 harg5 arg6 harg6 arg7 harg7 arg8 harg8 arg9 harg9 arg10 harg10 arg11 harg11 hc0 x0 x1 x2 x3 x4)).trans ?_)))
  all_goals
    unfold kernelRun1_A
    dsimp only
    sl_unfold_words
    first | rw [View.canon_unit_zero hz3] | rw [View.canon_cons_unit_zero (S := S1x128) hz2]
    simp only [View.readAt_eq_ld, harg2.read_unread, harg3.read_unread, harg4.read_unread, harg5.read_unread, harg6.read_unread, harg9.read_unread, harg10.read_unread, View.ld_unit_zero (S := S1x512x64) hz3, View.ld_unit_zero (S := S1x64x2048) hz3, View.ld_unit_zero (S := S1x2048x64) hz3, View.ld_unit_zero (S := S1x512x128) hz3, View.ld_unit_zero (S := S64x128) hz2, View.ld_unit_zero (S := S1x128) hz2, View.readCov_unit_zero (S := S512x2048) _ hz2, View.readCov_unit_zero (S := S1x128) _ hz2]
    rfl

/-- What every other grid point leaves in its four output blocks: its sums go on from the sums before it. -/
theorem out_B (hc0 : ¬cond1_0 i) (xo7 xo8 : Vec F S1x128 .f32) :
    (out1_B_5 c i arg2 harg2 arg3 harg3 arg4 harg4 arg5 harg5 arg6 harg6 arg7 harg7 arg8 harg8 arg9 harg9 arg10 harg10 arg11 harg11 hc0 x0 x1 x2 x3 x4 xo7 xo8,
      out1_B_6 c i arg2 harg2 arg3 harg3 arg4 harg4 arg5 harg5 arg6 harg6 arg7 harg7 arg8 harg8 arg9 harg9 arg10 harg10 arg11 harg11 hc0 x0 x1 x2 x3 x4 xo7 xo8,
      out1_B_7 c i arg2 harg2 arg3 harg3 arg4 harg4 arg5 harg5 arg6 harg6 arg7 harg7 arg8 harg8 arg9 harg9 arg10 harg10 arg11 harg11 hc0 x0 x1 x2 x3 x4 xo7 xo8,
      out1_B_8 c i arg2 harg2 arg3 harg3 arg4 harg4 arg5 harg5 arg6 harg6 arg7 harg7 arg8 harg8 arg9 harg9 arg10 harg10 arg11 harg11 hc0 x0 x1 x2 x3 x4 xo7 xo8)
    = (shapeCast S1x512x128 (fold maximumf (k1_pay6 (F := F)) (nb x0 x1 x2 x3 x4) 20) shapeCasts_S512x128_S1x512x128,
       shapeCast S1x512x128 (fold minimumf (k1_pay7 (F := F)) (nb x0 x1 x2 x3 x4) 20) shapeCasts_S512x128_S1x512x128,
       addf (shapeCast S1x128 xo7 shapeCasts_S1x128_S1x128) (shapeCast S1x128 (multiReduction .add [0] S128 (fold addf (k1_pay8 (F := F)) (nb x0 x1 x2 x3 x4) 20) 0x00000000#32 reduces_S512x128_S128 (.inl rfl) rfl : FVec F S128 .f32) shapeCasts_S128_S1x128),
       addf (shapeCast S1x128 xo8 shapeCasts_S1x128_S1x128) (shapeCast S1x128 (multiReduction .add [0] S128 (fold addf (k1_pay9 (F := F)) (fun j => mulf (nb x0 x1 x2 x3 x4 j) (nb x0 x1 x2 x3 x4 j)) 20) 0x00000000#32 reduces_S512x128_S128 (.inl rfl) rfl : FVec F S128 .f32) shapeCasts_S128_S1x128)) := by
  refine congrArg₂ Prod.mk ((View.read_writes_eq_canon _ _ _ (cover1_B_5 c i arg2 harg2 arg3 harg3 arg4 harg4 arg5 harg5 arg6 harg6 arg7 harg7 arg8 harg8 arg9 harg9 arg10 harg10 arg11 harg11 hc0 x0 x1 x2 x3 x4 xo7 xo8)).trans ?_)
    (congrArg₂ Prod.mk ((View.read_writes_eq_canon _ _ _ (cover1_B_6 c i arg2 harg2 arg3 harg3 arg4 harg4 arg5 harg5 arg6 harg6 arg7 harg7 arg8 harg8 arg9 harg9 arg10 harg10 arg11 harg11 hc0 x0 x1 x2 x3 x4 xo7 xo8)).trans ?_)
    (congrArg₂ Prod.mk ((View.read_writes_eq_canon _ _ _ (cover1_B_7 c i arg2 harg2 arg3 harg3 arg4 harg4 arg5 harg5 arg6 harg6 arg7 harg7 arg8 harg8 arg9 harg9 arg10 harg10 arg11 harg11 hc0 x0 x1 x2 x3 x4 xo7 xo8)).trans ?_)
      ((View.read_writes_eq_canon _ _ _ (cover1_B_8 c i arg2 harg2 arg3 harg3 arg4 harg4 arg5 harg5 arg6 harg6 arg7 harg7 arg8 harg8 arg9 harg9 arg10 harg10 arg11 harg11 hc0 x0 x1 x2 x3 x4 xo7 xo8)).trans ?_)))
  all_goals
    unfold kernelRun1_B
    dsimp only
    sl_unfold_words
    first | rw [View.canon_unit_zero hz3] | rw [View.canon_unit_zero hz2]
    simp only [View.readAt_eq_ld, harg2.read_unread, harg3.read_unread, harg4.read_unread, harg5.read_unread, harg6.read_unread, harg9.read_unread, harg10.read_unread, View.ld_unit_zero (S := S1x512x64) hz3, View.ld_unit_zero (S := S1x64x2048) hz3, View.ld_unit_zero (S := S1x2048x64) hz3, View.ld_unit_zero (S := S1x512x128) hz3, View.ld_unit_zero (S := S64x128) hz2, View.ld_unit_zero (S := S1x128) hz2, View.readCov_unit_zero (S := S512x2048) _ hz2, View.readCov_unit_zero (S := S1x128) _ hz2]
    rfl

end Blocks

end Cert.KernelIdeal.Select

end
-- ==== Proof.Read.lean ====
module

public import proofs.«01_k».proof.Proof.Select
public import Idealize.ShloMosaic.Lib.Pointwise

@[expose] public section

/-! The kernel's block computations read at an index, over the extended reals. -/

set_option maxRecDepth 16384

noncomputable section

namespace Cert.KernelIdeal.Read

open Cert.KernelIdeal Cert.KernelIdeal.Gen Cert.KernelIdeal.Select Idealize.ShloMosaic Idealize.ShloMosaic.TcCoe

theorem pay5_at (x1 : Vec Ideal S1x64x2048 .f32) (x0 : Vec Ideal S1x512x64 .f32) (r : Fin 512) (m : Fin 2048) :
    k1_pay5 (F := Ideal) x1 x0 (ix2 r m) = ∑ c : Fin 64, x1 (ix3 0 c m) * x1 (ix3 0 c m)
      - Ideal.ofBits .f32 0x40000000#32 * ∑ c : Fin 64, x0 (ix3 0 r c) * x1 (ix3 0 c m) := by
  pointwise [k1_pay5]

theorem next_at (t : FVec Ideal S512x2048 .f32) (p : FVec Ideal S512x1 .f32) (r : Fin 512) :
    next t p (ix2 r 0) = Finset.univ.fold min (Ideal.ofBits .f32 0x7F800000#32)
      fun m : Fin 2048 => if p (ix2 r 0) < t (ix2 r m) then t (ix2 r m) else Ideal.ofBits .f32 0x7F800000#32 := by
  pointwise [next]

theorem pick_at (t : FVec Ideal S512x2048 .f32) (v5 : FVec Ideal S2048x64 .f32) (v7 : FVec Ideal S512x128 .f32) (v9 : FVec Ideal S64x128 .f32)
    (p : FVec Ideal S512x1 .f32) (r : Fin 512) (o : Fin 128) :
    pick t v5 v7 v9 p (ix2 r o) = v7 (ix2 r o) + ∑ c : Fin 64, (∑ m : Fin 2048,
      (FloatOps.sitofp (F := Ideal) .f32 (BitVec.setWidth 32 (BitVec.ofBool (decide (t (ix2 r m) = p (ix2 r 0))))) : EReal) * v5 (ix2 m c)) * v9 (ix2 c o) := by
  pointwise [pick]

theorem pay1_at (v0 : Vec Ideal S1x2048x64 .f32) (v2 : Vec Ideal S64x128 .f32) (v5 : Vec Ideal S1x128 .f32) (n : Fin 2048) (o : Fin 128) :
    k0_pay1 v0 v2 v5 (ix3 0 n o) = ∑ c : Fin 64, v0 (ix3 0 n c) * v2 (ix2 c o) + v5 (ix2 0 o) := by
  pointwise [k0_pay1]

/-- The third kernel's scale of a channel. -/
def scale (s1 s2 : EReal) : EReal :=
  Ideal.rsqrt (Ideal.div s2 (Ideal.ofBits .f32 0x48A00000#32) - Ideal.div s1 (Ideal.ofBits .f32 0x48A00000#32) * Ideal.div s1 (Ideal.ofBits .f32 0x48A00000#32)
    + Ideal.ofBits .f32 0x3727C5AC#32)

theorem fin_at (x0 x1 : Vec Ideal S1x512x128 .f32) (x2 x3 x4 x5 : Vec Ideal S1x128 .f32) (r : Fin 512) (o : Fin 128) :
    out2_6 x0 x1 x2 x3 x4 x5 (ix3 0 r o) = max (((if 0 ≤ x4 (ix2 0 o) * scale (x2 (ix2 0 o)) (x3 (ix2 0 o)) then x0 (ix3 0 r o) else x1 (ix3 0 r o))
      - Ideal.div (x2 (ix2 0 o)) (Ideal.ofBits .f32 0x48A00000#32)) * (x4 (ix2 0 o) * scale (x2 (ix2 0 o)) (x3 (ix2 0 o))) + x5 (ix2 0 o)) 0 := by
  unfold out2_6
  rw [View.canon_unit_zero hz3]
  simp only [View.ld_unit_zero (S := S1x128) hz2, View.ld_unit_zero (S := S1x512x128) hz3]
  pointwise [k2_pay1, k2_pay2, scale]

theorem pay2_at (x2 : Vec Ideal S1x2048x64 .f32) (m : Fin 2048) (k : Fin 64) : k1_pay2 x2 (ix2 m k) = x2 (ix3 0 m k) := by
  pointwise [k1_pay2]
theorem pay3_at (x : Vec Ideal S1x512x128 .f32) (m : Fin 512) (k : Fin 128) : k1_pay3 x (ix2 m k) = x (ix3 0 m k) := by
  pointwise [k1_pay3]
theorem pay4_at (x : Vec Ideal S64x128 .f32) (m : Fin 64) (k : Fin 128) : k1_pay4 x (ix2 m k) = x (ix2 m k) := by
  pointwise [k1_pay4]

theorem colsum_at (xo : Vec Ideal S1x128 .f32) (y : FVec Ideal S512x128 .f32) (o : Fin 128) :
    (addf (F := Ideal) (shapeCast S1x128 xo shapeCasts_S1x128_S1x128) (shapeCast S1x128 (multiReduction .add [0] S128 y 0x00000000#32 reduces_S512x128_S128 (.inl rfl) rfl) shapeCasts_S128_S1x128) : FVec Ideal S1x128 .f32) (ix2 0 o)
      = xo (ix2 0 o) + ∑ r : Fin 512, y (ix2 r o) := by
  pointwise []

theorem pay90_at (o : Fin 128) : k1_pay90 (F := Ideal) (ix2 0 o) = (0 : EReal) := by
  pointwise [k1_pay90]
theorem pay91_at (o : Fin 128) : k1_pay91 (F := Ideal) (ix2 0 o) = (0 : EReal) := by
  pointwise [k1_pay91]
theorem pay6_at (r : Fin 512) (o : Fin 128) : k1_pay6 (F := Ideal) (ix2 r o) = Ideal.ofBits .f32 0xFF800000#32 := by
  pointwise [k1_pay6]
theorem pay7_at (r : Fin 512) (o : Fin 128) : k1_pay7 (F := Ideal) (ix2 r o) = Ideal.ofBits .f32 0x7F800000#32 := by
  pointwise [k1_pay7]
theorem pay8_at (r : Fin 512) (o : Fin 128) : k1_pay8 (F := Ideal) (ix2 r o) = (0 : EReal) := by
  pointwise [k1_pay8]
theorem pay9_at (r : Fin 512) (o : Fin 128) : k1_pay9 (F := Ideal) (ix2 r o) = (0 : EReal) := by
  pointwise [k1_pay9]

end Cert.KernelIdeal.Read

end
-- ==== Proof.Arrays.lean ====
module

public import proofs.«01_k».proof.Proof.Read
public import Idealize.ShloMosaic.Lib.Pipeline.ValueKit
public import Idealize.ShloMosaic.Lib.Pipeline.ValueKit.Point
public import Idealize.ShloMosaic.Lib.StableHlo.ReadAt

@[expose] public section

/-! What the three kernels leave in their result arrays, and what the result holds, read at an index. -/

set_option maxRecDepth 16384

noncomputable section

namespace Cert.KernelIdeal.Arrays

open Cert.KernelIdeal Cert.KernelIdeal.Gen Cert.KernelIdeal.Select Cert.KernelIdeal.Read Idealize.ShloMosaic Idealize.ShloMosaic.TcCoe Idealize.SL.Sem

/-- The batch of grid point `t` of the second and third kernels. -/
def bq (t : ℕ) : Fin 8 := ⟨t / 4 % 8, Nat.mod_lt _ (by norm_num)⟩
/-- Row `r` of grid point `t`'s block, in its batch. -/
def row (t : ℕ) (r : Fin 512) : Fin 2048 := ⟨t % 4 * 512 + r.val, by omega⟩

theorem idx0_0 : ∀ t : Fin cfg0.N, win0_0.index t = ![t.val, 0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![t.val, 0, 0] := (by decide +kernel : ∀ t : Fin grid0.N, _)
theorem idx1_0 : ∀ t : Fin cfg1.N, win1_0.index t = ![t.val / 4 % 8, t.val % 4, 0] := (by decide +kernel : ∀ t : Fin grid1.N, _)
theorem idx1_1 : ∀ t : Fin cfg1.N, win1_1.index t = ![t.val / 4 % 8, 0, 0] := (by decide +kernel : ∀ t : Fin grid1.N, _)
theorem idx1_2 : ∀ t : Fin cfg1.N, win1_2.index t = ![t.val / 4 % 8, 0, 0] := (by decide +kernel : ∀ t : Fin grid1.N, _)
theorem idx1_3 : ∀ t : Fin cfg1.N, win1_3.index t = ![t.val / 4 % 8, t.val % 4, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![t.val / 4 % 8, t.val % 4, 0] := (by decide +kernel : ∀ t : Fin grid1.N, _)
theorem idx1_6 : ∀ t : Fin cfg1.N, win1_6.index t = ![t.val / 4 % 8, t.val % 4, 0] := (by decide +kernel : ∀ t : Fin grid1.N, _)
theorem idx2_0 : ∀ t : Fin cfg2.N, win2_0.index t = ![t.val / 4 % 8, t.val % 4, 0] := (by decide +kernel : ∀ t : Fin grid2.N, _)
theorem idx2_1 : ∀ t : Fin cfg2.N, win2_1.index t = ![t.val / 4 % 8, t.val % 4, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![0, 0] := (by decide +kernel : ∀ t : Fin grid2.N, _)
theorem idx2_6 : ∀ t : Fin cfg2.N, win2_6.index t = ![t.val / 4 % 8, t.val % 4, 0] := (by decide +kernel : ∀ t : Fin grid2.N, _)

theorem idx_one3 {n k : ℕ} (y : (⟨3, ![1, n, k]⟩ : Shape).Idx) : ∃ r o, y = ix3 0 r o := by
  refine ⟨y 1, y 2, funext fun a => ?_⟩
  match a with
  | ⟨0, _⟩ => exact Subsingleton.elim (α := Fin 1) _ _
  | ⟨1, _⟩ => rfl
  | ⟨2, _⟩ => rfl

theorem idx_one2 {k : ℕ} (y : (⟨2, ![1, k]⟩ : Shape).Idx) : ∃ o, y = ix2 0 o := by
  refine ⟨y 1, funext fun a => ?_⟩
  match a with
  | ⟨0, _⟩ => exact Subsingleton.elim (α := Fin 1) _ _
  | ⟨1, _⟩ => rfl

section Regions
variable (V : (c : Dev nD) → (b : Ref sig .tc) → Buf (Elt Ideal) ((c.tc : Thread nD τ).loc b)) (c : Dev nD)

/-- The points, the channels first. -/
abbrev vx : S8x64x2048.Idx → EReal := V c main_arg0
/-- The points, one per row. -/
abbrev vp : S8x2048x64.Idx → EReal := V c main_v0
/-- The weights of a point itself. -/
abbrev va : S64x128.Idx → EReal := V c main_v4
/-- The weights of a neighbour. -/
abbrev vw : S64x128.Idx → EReal := V c main_v6
/-- The bias. -/
abbrev vb : S1x128.Idx → EReal := V c main_v7
/-- The first kernel's result. -/
abbrev vu : S8x2048x128.Idx → EReal := V c main_v10

/-- The first kernel's array. -/
def mix (b : Fin 8) (n : Fin 2048) (o : Fin 128) : EReal :=
  ∑ k : Fin 64, vp V c (ix3 b n k) * va V c (ix2 k o) + vb V c (ix2 0 o)

theorem blk0_0 (t : Fin cfg0.N) (n : Fin 2048) (k : Fin 64) : iblk0 V c 0 t (ix3 0 n k) = vp V c (ix3 ⟨t.val, t.isLt⟩ n k) := by
  blk_ext [iblk0, idx0_0 t]
theorem blk0_1 (t : Fin cfg0.N) (k : Fin 64) (o : Fin 128) : iblk0 V c 1 t (ix2 k o) = va V c (ix2 k o) := by
  blk_ext [iblk0, idx0_1 t]
theorem blk0_2 (t : Fin cfg0.N) (o : Fin 128) : iblk0 V c 2 t (ix2 0 o) = vb V c (ix2 0 o) := by
  blk_ext [iblk0, idx0_2 t]

theorem out0_at (t : Fin cfg0.N) (n : Fin 2048) (o : Fin 128) :
    out0_3 (iblk0 V c 0 t) (iblk0 V c 1 t) (iblk0 V c 2 t) (ix3 0 n o) = mix V c ⟨t.val, t.isLt⟩ n o := by
  unfold out0_3
  rw [View.canon_unit_zero hz3]
  simp only [View.ld_unit_zero (S := S1x128) hz2, View.ld_unit_zero (S := S64x128) hz2, View.ld_unit_zero (S := S1x2048x64) hz3]
  refine (pay1_at _ _ _ n o).trans ?_
  simp only [blk0_0, blk0_1, blk0_2]
  rfl

theorem arr0 : (dat0 V c).arrAt 3 cfg0.N = fun i => mix V c (i 0) (i 1) (i 2) := by
  refine (dat0 V c).arrAt_eq_of_covers 3 _ (by decide +kernel) fun t hf y => ?_
  blk_simp
  rw [after0_3]
  obtain ⟨n, o, rfl⟩ := idx_one3 y
  refine (out0_at V c t n o).trans ?_
  congr 1 <;> refine Fin.ext ?_ <;> blk_simp [idx0_3 t] <;> rfl

/-! ### The second kernel -/

theorem blk1_0 (t : Fin cfg1.N) (r : Fin 512) (k : Fin 64) : iblk1 V c 0 t (ix3 0 r k) = vp V c (ix3 (bq t.val) (row t.val r) k) := by
  blk_ext [iblk1, idx1_0 t, bq, row]
theorem blk1_1 (t : Fin cfg1.N) (k : Fin 64) (n : Fin 2048) : iblk1 V c 1 t (ix3 0 k n) = vx V c (ix3 (bq t.val) k n) := by
  blk_ext [iblk1, idx1_1 t, bq, row]
theorem blk1_2 (t : Fin cfg1.N) (n : Fin 2048) (k : Fin 64) : iblk1 V c 2 t (ix3 0 n k) = vp V c (ix3 (bq t.val) n k) := by
  blk_ext [iblk1, idx1_2 t, bq, row]
theorem blk1_3 (t : Fin cfg1.N) (r : Fin 512) (o : Fin 128) : iblk1 V c 3 t (ix3 0 r o) = vu V c (ix3 (bq t.val) (row t.val r) o) := by
  blk_ext [iblk1, idx1_3 t, bq, row]
theorem blk1_4 (t : Fin cfg1.N) (k : Fin 64) (o : Fin 128) : iblk1 V c 4 t (ix2 k o) = vw V c (ix2 k o) := by
  blk_ext [iblk1, idx1_4 t]

/-- The distance the second kernel ranks by: a point's squared length less twice its product with the row's. -/
def rank (b : Fin 8) (n m : Fin 2048) : EReal :=
  ∑ k : Fin 64, vx V c (ix3 b k m) * vx V c (ix3 b k m)
    - Ideal.ofBits .f32 0x40000000#32 * ∑ k : Fin 64, vp V c (ix3 b n k) * vx V c (ix3 b k m)

/-- The threshold of a row after `j` steps. -/
def level (b : Fin 8) (n : Fin 2048) : ℕ → EReal
  | 0 => Ideal.ofBits .f32 0xFF800000#32
  | j + 1 => Finset.univ.fold min (Ideal.ofBits .f32 0x7F800000#32)
      fun m => if level b n j < rank V c b n m then rank V c b n m else Ideal.ofBits .f32 0x7F800000#32

/-- The convolution of a point and the neighbour its next step picks. -/
def edge (b : Fin 8) (n : Fin 2048) (o : Fin 128) (j : ℕ) : EReal :=
  vu V c (ix3 b n o) + ∑ k : Fin 64, (∑ m : Fin 2048,
    (FloatOps.sitofp (F := Ideal) .f32 (BitVec.setWidth 32 (BitVec.ofBool (decide (rank V c b n m = level V c b n (j + 2))))) : EReal) * vp V c (ix3 b m k)) * vw V c (ix2 k o)

/-- The distances of a grid point's block. -/
abbrev dist (t : Fin cfg1.N) : FVec Ideal S512x2048 .f32 := k1_pay5 (iblk1 V c 1 t) (iblk1 V c 0 t)
/-- The neighbours of a grid point's block. -/
abbrev nbt (t : Fin cfg1.N) : ℕ → FVec Ideal S512x128 .f32 := nb (iblk1 V c 0 t) (iblk1 V c 1 t) (iblk1 V c 2 t) (iblk1 V c 3 t) (iblk1 V c 4 t)

theorem dist_at (t : Fin cfg1.N) (r : Fin 512) (m : Fin 2048) : dist V c t (ix2 r m) = rank V c (bq t.val) (row t.val r) m := by
  refine (pay5_at _ _ r m).trans ?_
  simp only [blk1_0, blk1_1]
  rfl

theorem lev_at (t : Fin cfg1.N) (r : Fin 512) (j : ℕ) : lev (dist V c t) j (ix2 r 0) = level V c (bq t.val) (row t.val r) j := by
  induction j with
  | zero => rfl
  | succ j ih =>
    refine (next_at _ _ r).trans ?_
    rw [ih]
    simp only [dist_at]
    rfl

theorem nbt_at (t : Fin cfg1.N) (r : Fin 512) (o : Fin 128) (j : ℕ) : nbt V c t j (ix2 r o) = edge V c (bq t.val) (row t.val r) o j := by
  refine (pick_at _ _ _ _ _ r o).trans ?_
  simp only [pay2_at, pay3_at, pay4_at, lev_at, dist_at, blk1_2, blk1_3, blk1_4]
  rfl

theorem fold_at {S : Shape} (op : EReal → EReal → EReal) (f : FVec Ideal S .f32 → FVec Ideal S .f32 → FVec Ideal S .f32)
    (hf : ∀ x y i, (f x y i : EReal) = op (x i) (y i)) (z : FVec Ideal S .f32) (y : ℕ → FVec Ideal S .f32) (n : ℕ) (i : S.Idx) :
    (fold f z y n i : EReal) = fold op (z i) (fun j => y j i) n := by
  induction n with
  | zero => rfl
  | succ n ih => exact (hf _ _ i).trans (by rw [ih]; rfl)

/-- The largest of a row's convolutions. -/
def top (b : Fin 8) (n : Fin 2048) (o : Fin 128) : EReal := fold max (Ideal.ofBits .f32 0xFF800000#32) (edge V c b n o) 20
/-- The least of a row's convolutions. -/
def bot (b : Fin 8) (n : Fin 2048) (o : Fin 128) : EReal := fold min (Ideal.ofBits .f32 0x7F800000#32) (edge V c b n o) 20
/-- The sum of a row's convolutions. -/
def tot (b : Fin 8) (n : Fin 2048) (o : Fin 128) : EReal := fold (· + ·) 0 (edge V c b n o) 20
/-- The sum of the squares of a row's convolutions. -/
def tot2 (b : Fin 8) (n : Fin 2048) (o : Fin 128) : EReal := fold (· + ·) 0 (fun j => edge V c b n o j * edge V c b n o j) 20

/-- What the first running sum held before a grid point. -/
def before7 (t : Fin cfg1.N) : Vec Ideal S1x128 .f32 :=
  if t.val % 32 = 0 then k1_pay90 (F := Ideal) else (outsAt1 V c (t.val - 1) (Nat.lt_of_le_of_lt (Nat.sub_le _ _) t.isLt)).2.2.1
/-- What the second running sum held before a grid point. -/
def before8 (t : Fin cfg1.N) : Vec Ideal S1x128 .f32 :=
  if t.val % 32 = 0 then k1_pay91 (F := Ideal) else (outsAt1 V c (t.val - 1) (Nat.lt_of_le_of_lt (Nat.sub_le _ _) t.isLt)).2.2.2

/-- What a grid point's four blocks hold. -/
theorem outs_eq (t : Fin cfg1.N) : outsAt1 V c t.val t.isLt =
      (shapeCast S1x512x128 (fold maximumf k1_pay6 (nbt V c t) 20) shapeCasts_S512x128_S1x512x128,
       shapeCast S1x512x128 (fold minimumf k1_pay7 (nbt V c t) 20) shapeCasts_S512x128_S1x512x128,
       addf (F := Ideal) (shapeCast S1x128 (before7 V c t) shapeCasts_S1x128_S1x128) (shapeCast S1x128 (multiReduction .add [0] S128 (fold addf k1_pay8 (nbt V c t) 20) 0x00000000#32 reduces_S512x128_S128 (.inl rfl) rfl) shapeCasts_S128_S1x128),
       addf (F := Ideal) (shapeCast S1x128 (before8 V c t) shapeCasts_S1x128_S1x128) (shapeCast S1x128 (multiReduction .add [0] S128 (fold addf k1_pay9 (fun j => mulf (nbt V c t j) (nbt V c t j)) 20) 0x00000000#32 reduces_S512x128_S128 (.inl rfl) rfl) shapeCasts_S128_S1x128)) := by
  unfold before7 before8
  by_cases h : t.val % 32 = 0
  · rw [if_pos h, if_pos h, outsAt1_A V c t h, out_A]
  · rw [if_neg h, if_neg h, outsAt1_B V c t h, out_B]

theorem cast_at (x : FVec Ideal S512x128 .f32) (r : Fin 512) (o : Fin 128) :
    (shapeCast S1x512x128 x shapeCasts_S512x128_S1x512x128 : FVec Ideal S1x512x128 .f32) (ix3 0 r o) = x (ix2 r o) := by
  pointwise []

theorem outs_5 (t : Fin cfg1.N) (r : Fin 512) (o : Fin 128) : (outsAt1 V c t.val t.isLt).1 (ix3 0 r o) = top V c (bq t.val) (row t.val r) o := by
  rw [outs_eq]
  refine (cast_at _ r o).trans ((fold_at max maximumf (fun _ _ _ => rfl) _ _ 20 _).trans ?_)
  simp only [nbt_at, pay6_at]
  rfl

theorem outs_6 (t : Fin cfg1.N) (r : Fin 512) (o : Fin 128) : (outsAt1 V c t.val t.isLt).2.1 (ix3 0 r o) = bot V c (bq t.val) (row t.val r) o := by
  rw [outs_eq]
  refine (cast_at _ r o).trans ((fold_at min minimumf (fun _ _ _ => rfl) _ _ 20 _).trans ?_)
  simp only [nbt_at, pay7_at]
  rfl

theorem outs_7 (t : Fin cfg1.N) (o : Fin 128) :
    (outsAt1 V c t.val t.isLt).2.2.1 (ix2 0 o) = (before7 V c t (ix2 0 o) : EReal) + ∑ r : Fin 512, tot V c (bq t.val) (row t.val r) o := by
  rw [outs_eq]
  refine (colsum_at _ _ o).trans (congrArg _ (Finset.sum_congr rfl fun r _ => (fold_at (· + ·) addf (fun _ _ _ => rfl) _ _ 20 _).trans ?_))
  simp only [nbt_at, pay8_at]
  rfl

theorem outs_8 (t : Fin cfg1.N) (o : Fin 128) :
    (outsAt1 V c t.val t.isLt).2.2.2 (ix2 0 o) = (before8 V c t (ix2 0 o) : EReal) + ∑ r : Fin 512, tot2 V c (bq t.val) (row t.val r) o := by
  rw [outs_eq]
  refine (colsum_at _ _ o).trans (congrArg _ (Finset.sum_congr rfl fun r _ => (fold_at (· + ·) addf (fun _ _ _ => rfl) _ _ 20 _).trans ?_))
  have e : ∀ j, (mulf (nbt V c t j) (nbt V c t j) (ix2 r o) : EReal) = edge V c (bq t.val) (row t.val r) o j * edge V c (bq t.val) (row t.val r) o j :=
    fun j => by rw [← nbt_at]; rfl
  simp only [e, pay9_at]
  rfl

theorem sum_7 (n : ℕ) (hn : n < cfg1.N) (o : Fin 128) :
    (outsAt1 V c n hn).2.2.1 (ix2 0 o) = ∑ t ∈ Finset.range (n + 1), ∑ r : Fin 512, tot V c (bq t) (row t r) o := by
  have hN : cfg1.N = 32 := N_1
  induction n with
  | zero =>
    refine (outs_7 V c ⟨0, hn⟩ o).trans ?_
    unfold before7
    rw [if_pos (show (0 : ℕ) % 32 = 0 from rfl), pay90_at, zero_add, Finset.sum_range_one]
  | succ n ih =>
    refine (outs_7 V c ⟨n + 1, hn⟩ o).trans ?_
    unfold before7
    rw [if_neg (show ¬(n + 1) % 32 = 0 by omega), Finset.sum_range_succ _ (n + 1)]
    exact congrArg (· + _) (ih _)

theorem sum_8 (n : ℕ) (hn : n < cfg1.N) (o : Fin 128) :
    (outsAt1 V c n hn).2.2.2 (ix2 0 o) = ∑ t ∈ Finset.range (n + 1), ∑ r : Fin 512, tot2 V c (bq t) (row t r) o := by
  have hN : cfg1.N = 32 := N_1
  induction n with
  | zero =>
    refine (outs_8 V c ⟨0, hn⟩ o).trans ?_
    unfold before8
    rw [if_pos (show (0 : ℕ) % 32 = 0 from rfl), pay91_at, zero_add, Finset.sum_range_one]
  | succ n ih =>
    refine (outs_8 V c ⟨n + 1, hn⟩ o).trans ?_
    unfold before8
    rw [if_neg (show ¬(n + 1) % 32 = 0 by omega), Finset.sum_range_succ _ (n + 1)]
    exact congrArg (· + _) (ih _)

/-- The grid's points and their rows are the batches and the points. -/
theorem sum_points (f : Fin 8 → Fin 2048 → EReal) : ∑ t ∈ Finset.range 32, ∑ r : Fin 512, f (bq t) (row t r) = ∑ k : Fin 8 × Fin 2048, f k.1 k.2 := by
  rw [Finset.sum_range fun t => ∑ r : Fin 512, f (bq t) (row t r), ← Fintype.sum_prod_type' (f := fun (t : Fin 32) (r : Fin 512) => f (bq t) (row t r))]
  refine Fintype.sum_bijective (fun k : Fin 32 × Fin 512 => (bq k.1, row k.1 k.2)) ?_ _ _ fun _ => rfl
  rw [Fintype.bijective_iff_injective_and_card]
  refine ⟨fun k k' e => ?_, by simp⟩
  have e0 := congrArg (fun p => p.1.val) e
  have e1 := congrArg (fun p => p.2.val) e
  simp only [bq, row] at e0 e1
  refine Prod.ext (Fin.ext ?_) (Fin.ext ?_) <;> omega

theorem arr1_5 : (dat1 V c).arrAt 5 cfg1.N = fun i => top V c (i 0) (i 1) (i 2) := by
  refine (dat1 V c).arrAt_eq_of_covers 5 _ (by decide +kernel) fun t hf y => ?_
  blk_simp
  rw [after1_5]
  obtain ⟨n, o, rfl⟩ := idx_one3 y
  refine (outs_5 V c t n o).trans ?_
  have e0 : ((win1_5.blk t).view.emb (ix3 0 n o) 0 : Fin 8) = bq t.val := by refine Fin.ext ?_; blk_simp [idx1_5 t, bq]; rfl
  have e1 : ((win1_5.blk t).view.emb (ix3 0 n o) 1 : Fin 2048) = row t.val n := by refine Fin.ext ?_; blk_simp [idx1_5 t, row]
  have e2 : ((win1_5.blk t).view.emb (ix3 0 n o) 2 : Fin 128) = o := by refine Fin.ext ?_; blk_simp [idx1_5 t]
  rw [e0, e1, e2]

theorem arr1_6 : (dat1 V c).arrAt 6 cfg1.N = fun i => bot V c (i 0) (i 1) (i 2) := by
  refine (dat1 V c).arrAt_eq_of_covers 6 _ (by decide +kernel) fun t hf y => ?_
  blk_simp
  rw [after1_6]
  obtain ⟨n, o, rfl⟩ := idx_one3 y
  refine (outs_6 V c t n o).trans ?_
  have e0 : ((win1_6.blk t).view.emb (ix3 0 n o) 0 : Fin 8) = bq t.val := by refine Fin.ext ?_; blk_simp [idx1_6 t, bq]; rfl
  have e1 : ((win1_6.blk t).view.emb (ix3 0 n o) 1 : Fin 2048) = row t.val n := by refine Fin.ext ?_; blk_simp [idx1_6 t, row]
  have e2 : ((win1_6.blk t).view.emb (ix3 0 n o) 2 : Fin 128) = o := by refine Fin.ext ?_; blk_simp [idx1_6 t]
  rw [e0, e1, e2]

theorem idx1_7 : ∀ t : Fin cfg1.N, win1_7.index t = ![0, 0] := (by decide +kernel : ∀ t : Fin grid1.N, _)
theorem idx1_8 : ∀ t : Fin cfg1.N, win1_8.index t = ![0, 0] := (by decide +kernel : ∀ t : Fin grid1.N, _)

theorem last_point (t : Fin cfg1.N) (h : t.val % 32 = 31) : t.val + 1 = 32 := by
  have := t.isLt
  have hN : cfg1.N = 32 := N_1
  omega

theorem arr1_7 : (dat1 V c).arrAt 7 cfg1.N = fun i => ∑ k : Fin 8 × Fin 2048, tot V c k.1 k.2 (i 1) := by
  refine (dat1 V c).arrAt_eq_of_covers 7 _ (by decide +kernel) fun t hf y => ?_
  blk_simp
  rw [after1_7]
  obtain ⟨o, rfl⟩ := idx_one2 y
  refine (sum_7 V c t.val t.isLt o).trans ?_
  rw [last_point t ((flush1_7 t).mp hf), sum_points fun b n => tot V c b n o]
  refine Finset.sum_congr rfl fun k _ => ?_
  congr 1; refine Fin.ext ?_; blk_simp [idx1_7 t]

theorem arr1_8 : (dat1 V c).arrAt 8 cfg1.N = fun i => ∑ k : Fin 8 × Fin 2048, tot2 V c k.1 k.2 (i 1) := by
  refine (dat1 V c).arrAt_eq_of_covers 8 _ (by decide +kernel) fun t hf y => ?_
  blk_simp
  rw [after1_8]
  obtain ⟨o, rfl⟩ := idx_one2 y
  refine (sum_8 V c t.val t.isLt o).trans ?_
  rw [last_point t ((flush1_8 t).mp hf), sum_points fun b n => tot2 V c b n o]
  refine Finset.sum_congr rfl fun k _ => ?_
  congr 1; refine Fin.ext ?_; blk_simp [idx1_8 t]

/-! ### The third kernel -/

/-- The largest convolutions. -/
abbrev vhi : S8x2048x128.Idx → EReal := V c main_v11_0
/-- The least convolutions. -/
abbrev vlo : S8x2048x128.Idx → EReal := V c main_v11_1
/-- The channels' sums. -/
abbrev vs1 : S1x128.Idx → EReal := V c main_v11_2
/-- The channels' sums of squares. -/
abbrev vs2 : S1x128.Idx → EReal := V c main_v11_3
/-- The normalization's scale. -/
abbrev vg : S1x128.Idx → EReal := V c main_v8
/-- The normalization's shift. -/
abbrev ve : S1x128.Idx → EReal := V c main_v9

theorem blk2_0 (t : Fin cfg2.N) (r : Fin 512) (o : Fin 128) : iblk2 V c 0 t (ix3 0 r o) = vhi V c (ix3 (bq t.val) (row t.val r) o) := by
  blk_ext [iblk2, idx2_0 t, bq, row]
theorem blk2_1 (t : Fin cfg2.N) (r : Fin 512) (o : Fin 128) : iblk2 V c 1 t (ix3 0 r o) = vlo V c (ix3 (bq t.val) (row t.val r) o) := by
  blk_ext [iblk2, idx2_1 t, bq, row]
theorem blk2_2 (t : Fin cfg2.N) (o : Fin 128) : iblk2 V c 2 t (ix2 0 o) = vs1 V c (ix2 0 o) := by
  blk_ext [iblk2, idx2_2 t]
theorem blk2_3 (t : Fin cfg2.N) (o : Fin 128) : iblk2 V c 3 t (ix2 0 o) = vs2 V c (ix2 0 o) := by
  blk_ext [iblk2, idx2_3 t]
theorem blk2_4 (t : Fin cfg2.N) (o : Fin 128) : iblk2 V c 4 t (ix2 0 o) = vg V c (ix2 0 o) := by
  blk_ext [iblk2, idx2_4 t]
theorem blk2_5 (t : Fin cfg2.N) (o : Fin 128) : iblk2 V c 5 t (ix2 0 o) = ve V c (ix2 0 o) := by
  blk_ext [iblk2, idx2_5 t]

/-- The third kernel's result from a channel's extremes, sums, scale and shift. -/
def norm (hi lo s1 s2 g e : EReal) : EReal :=
  max (((if 0 ≤ g * scale s1 s2 then hi else lo) - Ideal.div s1 (Ideal.ofBits .f32 0x48A00000#32)) * (g * scale s1 s2) + e) 0

theorem arr2 : (dat2 V c).arrAt 6 cfg2.N = fun i => norm (vhi V c (ix3 (i 0) (i 1) (i 2))) (vlo V c (ix3 (i 0) (i 1) (i 2)))
    (vs1 V c (ix2 0 (i 2))) (vs2 V c (ix2 0 (i 2))) (vg V c (ix2 0 (i 2))) (ve V c (ix2 0 (i 2))) := by
  refine (dat2 V c).arrAt_eq_of_covers 6 _ (by decide +kernel) fun t hf y => ?_
  blk_simp
  rw [after2_6]
  obtain ⟨n, o, rfl⟩ := idx_one3 y
  refine (fin_at _ _ _ _ _ _ n o).trans ?_
  have e0 : ((win2_6.blk t).view.emb (ix3 0 n o) 0 : Fin 8) = bq t.val := by refine Fin.ext ?_; blk_simp [idx2_6 t, bq]; rfl
  have e1 : ((win2_6.blk t).view.emb (ix3 0 n o) 1 : Fin 2048) = row t.val n := by refine Fin.ext ?_; blk_simp [idx2_6 t, row]
  have e2 : ((win2_6.blk t).view.emb (ix3 0 n o) 2 : Fin 128) = o := by refine Fin.ext ?_; blk_simp [idx2_6 t]
  rw [blk2_0, blk2_1, blk2_2, blk2_3, blk2_4, blk2_5, e0, e1, e2]
  rfl

end Regions

section Entry
variable (m : (ℓ : Loc nD τ sig) → Buf (Elt Ideal) ℓ) (ρ : Dev nD → PrngReg) (c : Dev nD)

/-- The five arguments. -/
abbrev ax : S8x64x2048.Idx → EReal := m ((c.tc : Thread nD τ).loc main_arg0)
abbrev aW : S128x128.Idx → EReal := m ((c.tc : Thread nD τ).loc main_arg1)
abbrev ab : S128.Idx → EReal := m ((c.tc : Thread nD τ).loc main_arg2)
abbrev ag : S128.Idx → EReal := m ((c.tc : Thread nD τ).loc main_arg3)
abbrev ae : S128.Idx → EReal := m ((c.tc : Thread nD τ).loc main_arg4)

theorem ent_v0 (b : Fin 8) (n : Fin 2048) (k : Fin 64) : vp (V1 m ρ) c (ix3 b n k) = ax m c (ix3 b k n) := by
  show StableHlo.after hostOps0 _ _ _ = _
  after_reads_at
theorem ent_v4 (k : Fin 64) (o : Fin 128) :
    va (V1 m ρ) c (ix2 k o) = aW m c (ix2 o ⟨k.val, by omega⟩) - aW m c (ix2 o ⟨64 + k.val, by omega⟩) := by
  show (StableHlo.after hostOps0 (W0 m ρ c) (Proc.devRef .tc main_v4) : S64x128.Idx → EReal) (ix2 k o) = _
  after_reads_at
theorem ent_v6 (k : Fin 64) (o : Fin 128) : vw (V1 m ρ) c (ix2 k o) = aW m c (ix2 o ⟨64 + k.val, by omega⟩) := by
  show StableHlo.after hostOps0 _ _ _ = _
  after_reads_at
theorem ent_v7 (o : Fin 128) : vb (V1 m ρ) c (ix2 0 o) = ab m c (ix1 o) := by
  show StableHlo.after hostOps0 _ _ _ = _
  after_reads_at
theorem ent_v8 (o : Fin 128) : (V1 m ρ c main_v8 : S1x128.Idx → EReal) (ix2 0 o) = ag m c (ix1 o) := by
  show StableHlo.after hostOps0 _ _ _ = _
  after_reads_at
theorem ent_v9 (o : Fin 128) : (V1 m ρ c main_v9 : S1x128.Idx → EReal) (ix2 0 o) = ae m c (ix1 o) := by
  show StableHlo.after hostOps0 _ _ _ = _
  after_reads_at

end Entry

end Cert.KernelIdeal.Arrays

end
-- ==== Proof.Math.lean ====
module

public import Mathlib.Data.EReal.Inv
public import Mathlib.Data.EReal.Operations
public import Mathlib.Algebra.BigOperators.Fin
public import Mathlib.Analysis.Real.Sqrt
public import Mathlib.Tactic.Ring
public import Mathlib.Tactic.FieldSimp
public import Mathlib.Tactic.Linarith
public import Mathlib.Tactic.Positivity

@[expose] public section

/-! The mathematics of the two programs, over the real numbers and the extended real numbers. -/

noncomputable section

namespace Cert.EdgeConv

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- `σ` lists the places of `f` in increasing order of their values, and no two of the first `K + 1` values are equal. -/
structure Ordered {N : ℕ} (K : ℕ) (f : Fin N → ℝ) (σ : Fin N → Fin N) : Prop where
  surj : Function.Surjective σ
  mono : ∀ a b, a ≤ b → f (σ a) ≤ f (σ b)
  strict : ∀ a b : Fin N, a.val < K → b.val = a.val + 1 → f (σ a) < f (σ b)

namespace Ordered

variable {N K : ℕ} {f : Fin N → ℝ} {σ : Fin N → Fin N}

theorem lt (h : Ordered K f σ) {a b : Fin N} (hab : a < b) (ha : a.val < K) : f (σ a) < f (σ b) := by
  have hb : a.val + 1 < N := lt_of_le_of_lt hab b.isLt
  exact (h.strict a ⟨a.val + 1, hb⟩ ha rfl).trans_le (h.mono _ _ hab)

/-- Only place `σ a` has the value of place `σ a`. -/
theorem eq_iff (h : Ordered K f σ) {a : Fin N} (ha : a.val < K) (m : Fin N) : f m = f (σ a) ↔ m = σ a := by
  refine ⟨fun e => ?_, fun e => by rw [e]⟩
  obtain ⟨b, rfl⟩ := h.surj m
  rcases lt_trichotomy a b with hab | hab | hab
  · exact absurd e (h.lt hab ha).ne'
  · rw [hab]
  · exact absurd e (h.lt hab (lt_trans hab ha)).ne

/-- The least value above a threshold, found again and again from below everything, goes through the values in order. -/
theorem level (h : Ordered K f σ) (lv : ℕ → EReal) (h0 : lv 0 = ⊥)
    (hs : ∀ j, lv (j + 1) = Finset.univ.fold min ⊤ fun m => if lv j < (f m : EReal) then (f m : EReal) else ⊤)
    (j : ℕ) (hj : j < K) (hN : j < N) : lv (j + 1) = (f (σ ⟨j, hN⟩) : EReal) := by
  induction j with
  | zero =>
    rw [hs, h0]
    refine le_antisymm ((Finset.fold_min_le _).2 (.inr ⟨σ ⟨0, hN⟩, Finset.mem_univ _, ?_⟩)) ((Finset.le_fold_min _).2 ⟨le_top, fun m _ => ?_⟩)
    · rw [if_pos (EReal.bot_lt_coe _)]
    · obtain ⟨b, rfl⟩ := h.surj m
      rw [if_pos (EReal.bot_lt_coe _)]
      exact EReal.coe_le_coe_iff.2 (h.mono _ _ (Fin.le_def.2 (Nat.zero_le _)))
  | succ j ih =>
    have hj' : j < N := by omega
    rw [hs, ih (by omega) hj']
    refine le_antisymm ((Finset.fold_min_le _).2 (.inr ⟨σ ⟨j + 1, hN⟩, Finset.mem_univ _, ?_⟩)) ((Finset.le_fold_min _).2 ⟨le_top, fun m _ => ?_⟩)
    · rw [if_pos (EReal.coe_lt_coe_iff.2 (h.strict ⟨j, hj'⟩ ⟨j + 1, hN⟩ (by show j < K; omega) rfl))]
    · obtain ⟨b, rfl⟩ := h.surj m
      split_ifs with hlt
      · refine EReal.coe_le_coe_iff.2 (h.mono _ _ (Fin.le_def.2 ?_))
        by_contra hc
        have : b ≤ ⟨j, hj'⟩ := Fin.le_def.2 (by simp only at hc ⊢; omega)
        exact absurd (EReal.coe_lt_coe_iff.1 hlt) (not_lt.2 (h.mono _ _ this))
      · exact le_top

end Ordered

/-- The sum of the rows a mask picks, when it picks one. -/
theorem sum_pick {N : ℕ} (i : Fin N) (p : Fin N → Prop) [DecidablePred p] (hp : ∀ m, p m ↔ m = i) (z : Fin N → EReal) :
    ∑ m, (if p m then (1 : EReal) else 0) * z m = z i := by
  rw [Finset.sum_eq_single i (fun m _ hm => by rw [if_neg fun h => hm ((hp m).1 h), zero_mul])
    (fun h => absurd (Finset.mem_univ _) h), if_pos ((hp i).2 rfl), one_mul]

/-- The mean of the squares less the square of the mean is the mean of the squared distances from the mean. -/
theorem variance {ι : Type} [Fintype ι] (y : ι → ℝ) (n : ℝ) (hn : (Fintype.card ι : ℝ) = n) (h0 : n ≠ 0) :
    (∑ i, y i * y i) / n - (∑ i, y i) / n * ((∑ i, y i) / n)
      = (∑ i, (y i - (∑ k, y k) / n) * (y i - (∑ k, y k) / n)) / n := by
  have e : ∀ μ : ℝ, ∑ i, (y i - μ) * (y i - μ) = ∑ i, y i * y i - 2 * μ * ∑ i, y i + n * (μ * μ) := fun μ => by
    rw [show (∑ i, (y i - μ) * (y i - μ)) = ∑ i, (y i * y i - 2 * μ * y i + μ * μ) from Finset.sum_congr rfl fun i _ => by ring,
      Finset.sum_add_distrib, Finset.sum_sub_distrib, Finset.mul_sum, Finset.sum_const, Finset.card_univ, nsmul_eq_mul, hn]
  rw [e]; field_simp; ring

/-- Normalizing, scaling, shifting and clipping commute with the largest, taken on the side the scale's sign says. -/
theorem max_affine {n : ℕ} (y : Fin n → ℝ) (μ r : ℝ) (hr : 0 < r) (γ β top bot : EReal)
    (i₁ i₂ : Fin n) (h₁ : top = y i₁) (h₂ : bot = y i₂) (ht : ∀ i, y i ≤ y i₁) (hb : ∀ i, y i₂ ≤ y i) :
    (Finset.univ.fold max ⊥ fun i => max (((y i - μ : ℝ) : EReal) * r * γ + β) 0)
      = max (((if 0 ≤ γ * r then top else bot) - (μ : EReal)) * (γ * r) + β) 0 := by
  have hr' : (0 : EReal) < r := EReal.coe_pos.2 hr
  have assoc : ∀ a : ℝ, ((a - μ : ℝ) : EReal) * r * γ = ((a - μ : ℝ) : EReal) * (γ * r) := fun a => by
    rw [mul_assoc, mul_comm (r : EReal) γ]
  subst h₁ h₂
  split_ifs with hg
  · rw [← EReal.coe_sub]
    refine le_antisymm ((Finset.fold_max_le _).2 ⟨bot_le, fun i _ => ?_⟩) ((Finset.le_fold_max _).2 (.inr ⟨i₁, Finset.mem_univ _, by rw [assoc]⟩))
    rw [assoc]
    exact max_le_max (add_le_add (mul_le_mul_of_nonneg_right (EReal.coe_le_coe_iff.2 (by linarith [ht i])) hg) le_rfl) le_rfl
  · rw [← EReal.coe_sub]
    refine le_antisymm ((Finset.fold_max_le _).2 ⟨bot_le, fun i _ => ?_⟩) ((Finset.le_fold_max _).2 (.inr ⟨i₂, Finset.mem_univ _, by rw [assoc]⟩))
    rw [assoc]
    refine max_le_max (add_le_add ?_ le_rfl) le_rfl
    have := mul_le_mul_of_nonneg_right (EReal.coe_le_coe_iff.2 (sub_le_sub_right (hb i) μ)) (EReal.neg_nonneg.2 (le_of_not_ge hg))
    rwa [mul_neg, mul_neg, EReal.neg_le_neg_iff] at this

/-- A convolution of a point and its distance from a neighbour, split by the two. -/
theorem split_conv {n : ℕ} (x z w₁ w₂ : Fin n → ℝ) (b : ℝ) :
    (∑ c, x c * (w₁ c - w₂ c) + b) + ∑ c, z c * w₂ c = ∑ c, x c * w₁ c + ∑ c, (z c - x c) * w₂ c + b := by
  simp only [mul_sub, sub_mul, Finset.sum_sub_distrib]; ring

/-- The squared distance of two points from their lengths and their product. -/
theorem sq_dist {n : ℕ} (x z : Fin n → ℝ) :
    0 ≤ ∑ c, x c * x c + ∑ c, z c * z c - 2 * ∑ c, x c * z c := by
  have : ∑ c, x c * x c + ∑ c, z c * z c - 2 * ∑ c, x c * z c = ∑ c, (x c - z c) * (x c - z c) := by
    rw [Finset.mul_sum, ← Finset.sum_add_distrib, ← Finset.sum_sub_distrib]
    exact Finset.sum_congr rfl fun c _ => by ring
  rw [this]; exact Finset.sum_nonneg fun c _ => mul_self_nonneg _

/-! ### The function both programs compute -/

/-- What is added to the variance. -/
def eps : ℝ := 10995116 / 2 ^ 40

theorem eps_pos : 0 < eps := by unfold eps; positivity

/-- The rank of point `m` from point `n`: its squared length less twice their product. -/
def sqd (X : Fin 8 → Fin 2048 → Fin 64 → ℝ) (b : Fin 8) (n m : Fin 2048) : ℝ :=
  ∑ k, X b m k * X b m k - 2 * ∑ k, X b n k * X b m k

/-- The convolution of a point and its neighbour after next `j`. -/
def conv (X : Fin 8 → Fin 2048 → Fin 64 → ℝ) (W : Fin 128 → Fin 128 → ℝ) (B : Fin 128 → ℝ) (σ : Fin 8 → Fin 2048 → Fin 2048 → Fin 2048)
    (b : Fin 8) (n : Fin 2048) (j : Fin 20) (o : Fin 128) : ℝ :=
  ∑ k : Fin 64, X b n k * W o ⟨k.val, by omega⟩
    + ∑ k : Fin 64, (X b (σ b n ⟨1 + j.val, by omega⟩) k - X b n k) * W o ⟨64 + k.val, by omega⟩ + B o

/-- The points and their neighbours. -/
abbrev Edge : Type := Fin 8 × Fin 2048 × Fin 20

theorem card_edge : (Fintype.card Edge : ℝ) = 327680 := by
  simp only [Fintype.card_prod, Fintype.card_fin]; norm_num

/-- A channel's mean. -/
def mean (Y : Fin 8 → Fin 2048 → Fin 20 → Fin 128 → ℝ) (o : Fin 128) : ℝ := (∑ k : Edge, Y k.1 k.2.1 k.2.2 o) / 327680

/-- A channel's variance. -/
def var (Y : Fin 8 → Fin 2048 → Fin 20 → Fin 128 → ℝ) (o : Fin 128) : ℝ :=
  (∑ k : Edge, (Y k.1 k.2.1 k.2.2 o - mean Y o) * (Y k.1 k.2.1 k.2.2 o - mean Y o)) / 327680

theorem var_nonneg (Y : Fin 8 → Fin 2048 → Fin 20 → Fin 128 → ℝ) (o : Fin 128) : 0 ≤ var Y o :=
  div_nonneg (Finset.sum_nonneg fun _ _ => mul_self_nonneg _) (by norm_num)

theorem var_eps_pos (Y : Fin 8 → Fin 2048 → Fin 20 → Fin 128 → ℝ) (o : Fin 128) : 0 < var Y o + eps :=
  add_pos_of_nonneg_of_pos (var_nonneg Y o) eps_pos

/-- A channel's normalizing factor. -/
def inv (Y : Fin 8 → Fin 2048 → Fin 20 → Fin 128 → ℝ) (o : Fin 128) : ℝ := (Real.sqrt (var Y o + eps))⁻¹

theorem inv_pos (Y : Fin 8 → Fin 2048 → Fin 20 → Fin 128 → ℝ) (o : Fin 128) : 0 < inv Y o :=
  _root_.inv_pos.2 (Real.sqrt_pos.2 (var_eps_pos Y o))

theorem var_eq (Y : Fin 8 → Fin 2048 → Fin 20 → Fin 128 → ℝ) (o : Fin 128) :
    (∑ k : Edge, Y k.1 k.2.1 k.2.2 o * Y k.1 k.2.1 k.2.2 o) / 327680 - mean Y o * mean Y o = var Y o :=
  variance (fun k : Edge => Y k.1 k.2.1 k.2.2 o) 327680 card_edge (by norm_num)

/-- The result: the largest over the neighbours of the normalized, scaled, shifted and clipped convolutions. -/
def result (Y : Fin 8 → Fin 2048 → Fin 20 → Fin 128 → ℝ) (γ β : Fin 128 → EReal) (b : Fin 8) (n : Fin 2048) (o : Fin 128) : EReal :=
  Finset.univ.fold max ⊥ fun j : Fin 20 => max (((Y b n j o - mean Y o : ℝ) : EReal) * (inv Y o : ℝ) * γ o + β o) 0

end Cert.EdgeConv

end
-- ==== Proof.Words.lean ====
module

public import proofs.«01_k».proof.Proof.Math
public import Idealize.ShloMosaic.PureOps.Ideal

@[expose] public section

/-! The values of the literals, and two operations at them. -/

noncomputable section

namespace Cert.EdgeConv

open Idealize.ShloMosaic

theorem word_bot : Ideal.ofBits .f32 0xFF800000#32 = ⊥ := by simp [Ideal.ofBits, Ideal.ieee]
theorem word_top : Ideal.ofBits .f32 0x7F800000#32 = ⊤ := by simp [Ideal.ofBits, Ideal.ieee]
theorem word_two : Ideal.ofBits .f32 0x40000000#32 = ((2 : ℝ) : EReal) := by
  simp [Ideal.ofBits, Ideal.ieee, -EReal.coe_mul]; norm_num
theorem word_count : Ideal.ofBits .f32 0x48A00000#32 = ((327680 : ℝ) : EReal) := by
  simp [Ideal.ofBits, Ideal.ieee, -EReal.coe_mul]; norm_num
theorem word_eps : Ideal.ofBits .f32 0x3727C5AC#32 = (eps : EReal) := by
  unfold eps
  simp [Ideal.ofBits, Ideal.ieee, -EReal.coe_mul]; norm_num

/-- A comparison's bit, widened and read as a number. -/
theorem sitofp_bit (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases h : p <;> simp [h]

theorem sitofp_zero : (FloatOps.sitofp (F := Ideal) .f32 0#32 : EReal) = 0 := by
  show (((0#32 : BitVec 32).toInt : ℝ) : EReal) = _
  simp

/-- Division by the count. -/
theorem div_count (a : ℝ) : Ideal.div (a : EReal) ((327680 : ℝ) : EReal) = ((a / 327680 : ℝ) : EReal) := by
  rw [Ideal.div_coe (by norm_num), ← EReal.coe_mul, mul_one_div]

end Cert.EdgeConv

end
-- ==== Proof.KernelValue.lean ====
module

public import proofs.«01_k».proof.Proof.Arrays
public import proofs.«01_k».proof.Proof.Words

@[expose] public section

/-! The kernel's result array as the function of `Math.lean`, when the arguments are real and the ranks
    of each point's nearest points differ. -/

set_option maxRecDepth 16384

noncomputable section

namespace Cert.KernelIdeal.Arrays

open Cert.KernelIdeal Cert.KernelIdeal.Gen Cert.KernelIdeal.Read Cert.EdgeConv
open Idealize.ShloMosaic Idealize.ShloMosaic.TcCoe Idealize.SL.Sem Idealize.ShloMosaic.ValueKit
open Cert.KernelIdeal.Select (fold)

section Boundaries
variable (m : (ℓ : Loc nD τ sig) → Buf (Elt Ideal) ℓ) (ρ : Dev nD → PrngReg) (c : Dev nD)

/-! ### The arrays at the second kernel's entry -/

theorem two_x : vx (V2 m ρ) c = ax m c := (W2_of m ρ c main_arg0 (by decide)).trans (W1_of m ρ c main_arg0 (by decide))
theorem two_p : vp (V2 m ρ) c = vp (V1 m ρ) c := W2_of m ρ c main_v0 (by decide)
theorem two_w : vw (V2 m ρ) c = vw (V1 m ρ) c := W2_of m ρ c main_v6 (by decide)
theorem two_u : vu (V2 m ρ) c = fun i => mix (V1 m ρ) c (i 0) (i 1) (i 2) := (W2_arr m ρ c 3).trans (arr0 (V1 m ρ) c)

/-! ### The arrays at the third kernel's entry -/

theorem three_hi : vhi (V3 m ρ) c = fun i => top (V2 m ρ) c (i 0) (i 1) (i 2) := (W3_arr m ρ c 5).trans (arr1_5 (V2 m ρ) c)
theorem three_lo : vlo (V3 m ρ) c = fun i => bot (V2 m ρ) c (i 0) (i 1) (i 2) := (W3_arr m ρ c 6).trans (arr1_6 (V2 m ρ) c)
theorem three_s1 : vs1 (V3 m ρ) c = fun i => ∑ k : Fin 8 × Fin 2048, tot (V2 m ρ) c k.1 k.2 (i 1) := (W3_arr m ρ c 7).trans (arr1_7 (V2 m ρ) c)
theorem three_s2 : vs2 (V3 m ρ) c = fun i => ∑ k : Fin 8 × Fin 2048, tot2 (V2 m ρ) c k.1 k.2 (i 1) := (W3_arr m ρ c 8).trans (arr1_8 (V2 m ρ) c)
theorem three_g (o : Fin 128) : vg (V3 m ρ) c (ix2 0 o) = ag m c (ix1 o) :=
  (congrFun ((W3_of m ρ c main_v8 (by decide)).trans (W2_of m ρ c main_v8 (by decide))) (ix2 0 o)).trans (ent_v8 m ρ c o)
theorem three_e (o : Fin 128) : ve (V3 m ρ) c (ix2 0 o) = ae m c (ix1 o) :=
  (congrFun ((W3_of m ρ c main_v9 (by decide)).trans (W2_of m ρ c main_v9 (by decide))) (ix2 0 o)).trans (ent_v9 m ρ c o)

/-- The result array. -/
abbrev res : S8x128x2048.Idx → EReal := W5 m ρ c (Proc.devRef .tc main_v13)

theorem res_at (b : Fin 8) (o : Fin 128) (n : Fin 2048) :
    res m ρ c (ix3 b o n) = norm (top (V2 m ρ) c b n o) (bot (V2 m ρ) c b n o)
      (∑ k : Fin 8 × Fin 2048, tot (V2 m ρ) c k.1 k.2 o) (∑ k : Fin 8 × Fin 2048, tot2 (V2 m ρ) c k.1 k.2 o) (ag m c (ix1 o)) (ae m c (ix1 o)) := by
  have e : res m ρ c (ix3 b o n) = (W4 m ρ c (Proc.devRef .tc main_v12) : S8x2048x128.Idx → EReal) (ix3 b n o) := by
    show (StableHlo.after hostOps3 (W4 m ρ c) (Proc.devRef .tc main_v13) : S8x128x2048.Idx → EReal) (ix3 b o n) = _
    after_reads_at
  rw [e]
  refine (congrFun ((W4_arr m ρ c 6).trans (arr2 (V3 m ρ) c)) (ix3 b n o)).trans ?_
  show norm (vhi (V3 m ρ) c (ix3 b n o)) (vlo (V3 m ρ) c (ix3 b n o)) (vs1 (V3 m ρ) c (ix2 0 o)) (vs2 (V3 m ρ) c (ix2 0 o))
    (vg (V3 m ρ) c (ix2 0 o)) (ve (V3 m ρ) c (ix2 0 o)) = _
  rw [three_hi, three_lo, three_s1, three_s2, three_g, three_e]
  rfl

end Boundaries

/-! ### Running folds -/

theorem fold_sum (y : ℕ → ℝ) (n : ℕ) : fold (· + ·) (0 : EReal) (fun j => (y j : EReal)) n = ((∑ j : Fin n, y j.val : ℝ) : EReal) := by
  induction n with
  | zero => simp [fold]
  | succ n ih => rw [fold, ih, Fin.sum_univ_castSucc, EReal.coe_add]; rfl

/-- A running fold of the first places depends on those places alone. -/
theorem fold_congr {α : Type} (op : α → α → α) (z : α) (y y' : ℕ → α) (n : ℕ) (h : ∀ j < n, y j = y' j) : fold op z y n = fold op z y' n := by
  induction n with
  | zero => rfl
  | succ n ih => rw [fold, fold, ih fun j hj => h j (by omega), h n (by omega)]

theorem fold_max (y : ℕ → ℝ) (n : ℕ) : ∃ i ≤ n, fold max (⊥ : EReal) (fun j => (y j : EReal)) (n + 1) = y i ∧ ∀ j ≤ n, y j ≤ y i := by
  induction n with
  | zero => exact ⟨0, le_rfl, by simp [fold], fun j hj => by rw [Nat.le_zero.1 hj]⟩
  | succ n ih =>
    obtain ⟨i, hi, e, h⟩ := ih
    rw [fold, e]
    rcases le_total (y i) (y (n + 1)) with l | l
    · exact ⟨n + 1, le_rfl, max_eq_right (EReal.coe_le_coe_iff.2 l), fun j hj => (Nat.le_succ_iff.1 hj).elim (fun g => (h j g).trans l) fun g => by rw [g]⟩
    · exact ⟨i, by omega, max_eq_left (EReal.coe_le_coe_iff.2 l), fun j hj => (Nat.le_succ_iff.1 hj).elim (h j) fun g => by rw [g]; exact l⟩

theorem fold_min (y : ℕ → ℝ) (n : ℕ) : ∃ i ≤ n, fold min (⊤ : EReal) (fun j => (y j : EReal)) (n + 1) = y i ∧ ∀ j ≤ n, y i ≤ y j := by
  induction n with
  | zero => exact ⟨0, le_rfl, by simp [fold], fun j hj => by rw [Nat.le_zero.1 hj]⟩
  | succ n ih =>
    obtain ⟨i, hi, e, h⟩ := ih
    rw [fold, e]
    rcases le_total (y (n + 1)) (y i) with l | l
    · exact ⟨n + 1, le_rfl, min_eq_right (EReal.coe_le_coe_iff.2 l), fun j hj => (Nat.le_succ_iff.1 hj).elim (fun g => l.trans (h j g)) fun g => by rw [g]⟩
    · exact ⟨i, by omega, min_eq_left (EReal.coe_le_coe_iff.2 l), fun j hj => (Nat.le_succ_iff.1 hj).elim (h j) fun g => by rw [g]; exact l⟩

section Real
variable (m : (ℓ : Loc nD τ sig) → Buf (Elt Ideal) ℓ) (ρ : Dev nD → PrngReg) (c : Dev nD)
variable {X : Fin 8 → Fin 2048 → Fin 64 → ℝ} {W : Fin 128 → Fin 128 → ℝ} {B : Fin 128 → ℝ} {σ : Fin 8 → Fin 2048 → Fin 2048 → Fin 2048}
variable (hX : ∀ b n k, ax m c (ix3 b k n) = X b n k) (hW : ∀ o k, aW m c (ix2 o k) = W o k) (hB : ∀ o, ab m c (ix1 o) = B o)
variable (hσ : ∀ b n, Ordered 21 (sqd X b n) (σ b n))

include hX

theorem rank_real (b : Fin 8) (n k : Fin 2048) : rank (V2 m ρ) c b n k = sqd X b n k := by
  have e : ∀ q, vp (V1 m ρ) c (ix3 b n q) = X b n q := fun q => (ent_v0 m ρ c b n q).trans (hX b n q)
  unfold rank sqd
  rw [two_x, two_p, word_two, EReal.coe_sub, EReal.coe_mul, coe_sum, coe_sum]
  refine congrArg₂ (· - ·) (Finset.sum_congr rfl fun q _ => ?_) (congrArg _ (Finset.sum_congr rfl fun q _ => ?_))
  · rw [hX, EReal.coe_mul]
  · rw [e, hX, EReal.coe_mul]

include hσ

theorem level_real (b : Fin 8) (n : Fin 2048) (j : ℕ) (hj : j < 21) :
    level (V2 m ρ) c b n (j + 1) = (sqd X b n (σ b n ⟨j, by omega⟩) : EReal) :=
  (hσ b n).level (level (V2 m ρ) c b n) word_bot (fun j => by
    rw [level]; simp only [rank_real m ρ c hX, word_top]) j hj (by omega)

include hW hB

theorem edge_real (b : Fin 8) (n : Fin 2048) (o : Fin 128) (j : ℕ) (hj : j < 20) :
    edge (V2 m ρ) c b n o j = (conv X W B σ b n ⟨j, hj⟩ o : EReal) := by
  unfold edge
  rw [two_u, two_p, two_w]
  show mix (V1 m ρ) c b n o + _ = _
  unfold mix
  have pick : ∀ k : Fin 64, (∑ q : Fin 2048, (FloatOps.sitofp (F := Ideal) .f32 (BitVec.setWidth 32 (BitVec.ofBool
      (decide (rank (V2 m ρ) c b n q = level (V2 m ρ) c b n (j + 2))))) : EReal) * vp (V1 m ρ) c (ix3 b q k))
      = (X b (σ b n ⟨1 + j, by omega⟩) k : EReal) := by
    intro k
    refine (Finset.sum_congr rfl fun q _ => congrArg (· * _) (sitofp_bit _)).trans
      ((sum_pick (σ b n ⟨1 + j, by omega⟩) _ (fun q => ?_) _).trans ((ent_v0 m ρ c b _ k).trans (hX b _ k)))
    rw [rank_real m ρ c hX, level_real m ρ c hX hσ b n (j + 1) (by omega), EReal.coe_eq_coe_iff, (hσ b n).eq_iff (show j + 1 < 21 by omega)]
    have : (⟨j + 1, by omega⟩ : Fin 2048) = ⟨1 + j, by omega⟩ := Fin.ext (Nat.add_comm j 1)
    rw [this]
  have e0 : ∀ k, vp (V1 m ρ) c (ix3 b n k) = X b n k := fun k => (ent_v0 m ρ c b n k).trans (hX b n k)
  have e4 : ∀ k : Fin 64, va (V1 m ρ) c (ix2 k o) = ((W o ⟨k.val, by omega⟩ - W o ⟨64 + k.val, by omega⟩ : ℝ) : EReal) := fun k =>
    (ent_v4 m ρ c k o).trans (by rw [hW, hW, EReal.coe_sub])
  have e6 : ∀ k : Fin 64, vw (V1 m ρ) c (ix2 k o) = W o ⟨64 + k.val, by omega⟩ := fun k => (ent_v6 m ρ c k o).trans (hW o _)
  have e7 : vb (V1 m ρ) c (ix2 0 o) = B o := (ent_v7 m ρ c o).trans (hB o)
  unfold conv
  rw [e7, ← split_conv, EReal.coe_add, EReal.coe_add, coe_sum, coe_sum]
  refine congrArg₂ (· + ·) (congrArg (· + _) (Finset.sum_congr rfl fun k _ => ?_)) (Finset.sum_congr rfl fun k _ => ?_)
  · rw [e0, e4, EReal.coe_mul]
  · rw [pick, e6, EReal.coe_mul]

/-- The convolution after next `j`, for the running folds. -/
def nth (Y : Fin 8 → Fin 2048 → Fin 20 → Fin 128 → ℝ) (b : Fin 8) (n : Fin 2048) (o : Fin 128) (j : ℕ) : ℝ := if h : j < 20 then Y b n ⟨j, h⟩ o else 0

omit hX hW hB hσ in
theorem nth_of (Y : Fin 8 → Fin 2048 → Fin 20 → Fin 128 → ℝ) (b : Fin 8) (n : Fin 2048) (o : Fin 128) (j : ℕ) (h : j < 20) : nth Y b n o j = Y b n ⟨j, h⟩ o := dif_pos h

theorem edge_nth (b : Fin 8) (n : Fin 2048) (o : Fin 128) (j : ℕ) (hj : j < 20) :
    edge (V2 m ρ) c b n o j = (nth (conv X W B σ) b n o j : EReal) := by
  rw [edge_real m ρ c hX hW hB hσ b n o j hj, nth_of _ _ _ _ _ hj]

theorem tot_real (b : Fin 8) (n : Fin 2048) (o : Fin 128) : tot (V2 m ρ) c b n o = ((∑ j : Fin 20, conv X W B σ b n j o : ℝ) : EReal) := by
  unfold tot
  rw [fold_congr _ _ _ _ 20 (edge_nth m ρ c hX hW hB hσ b n o), fold_sum]
  exact congrArg _ (Finset.sum_congr rfl fun j _ => nth_of _ _ _ _ _ j.isLt)

theorem tot2_real (b : Fin 8) (n : Fin 2048) (o : Fin 128) :
    tot2 (V2 m ρ) c b n o = ((∑ j : Fin 20, conv X W B σ b n j o * conv X W B σ b n j o : ℝ) : EReal) := by
  unfold tot2
  rw [fold_congr _ _ _ (fun j => ((nth (conv X W B σ) b n o j * nth (conv X W B σ) b n o j : ℝ) : EReal)) 20 fun j hj => by
    rw [edge_nth m ρ c hX hW hB hσ b n o j hj, ← EReal.coe_mul], fold_sum]
  exact congrArg _ (Finset.sum_congr rfl fun j _ => by rw [nth_of _ _ _ _ _ j.isLt])

theorem top_real (b : Fin 8) (n : Fin 2048) (o : Fin 128) :
    ∃ i : Fin 20, top (V2 m ρ) c b n o = (conv X W B σ b n i o : EReal) ∧ ∀ j, conv X W B σ b n j o ≤ conv X W B σ b n i o := by
  obtain ⟨i, hi, e, h⟩ := fold_max (nth (conv X W B σ) b n o) 19
  refine ⟨⟨i, by omega⟩, ?_, fun j => ?_⟩
  · unfold top
    rw [fold_congr _ _ _ _ 20 (edge_nth m ρ c hX hW hB hσ b n o), word_bot]
    exact e.trans (congrArg _ (nth_of _ _ _ _ _ _))
  · have := h j.val (by omega)
    rwa [nth_of _ _ _ _ _ j.isLt, nth_of _ _ _ _ _ (show i < 20 by omega)] at this

theorem bot_real (b : Fin 8) (n : Fin 2048) (o : Fin 128) :
    ∃ i : Fin 20, bot (V2 m ρ) c b n o = (conv X W B σ b n i o : EReal) ∧ ∀ j, conv X W B σ b n i o ≤ conv X W B σ b n j o := by
  obtain ⟨i, hi, e, h⟩ := fold_min (nth (conv X W B σ) b n o) 19
  refine ⟨⟨i, by omega⟩, ?_, fun j => ?_⟩
  · unfold bot
    rw [fold_congr _ _ _ _ 20 (edge_nth m ρ c hX hW hB hσ b n o), word_top]
    exact e.trans (congrArg _ (nth_of _ _ _ _ _ _))
  · have := h j.val (by omega)
    rwa [nth_of _ _ _ _ _ j.isLt, nth_of _ _ _ _ _ (show i < 20 by omega)] at this

omit hX hW hB hσ in
theorem sum_edges (Y : Fin 8 → Fin 2048 → Fin 20 → ℝ) :
    ∑ k : Fin 8 × Fin 2048, ∑ j : Fin 20, Y k.1 k.2 j = ∑ k : Edge, Y k.1 k.2.1 k.2.2 := by
  rw [Fintype.sum_prod_type, Fintype.sum_prod_type (f := fun k : Edge => Y k.1 k.2.1 k.2.2)]
  exact Finset.sum_congr rfl fun b _ => (Fintype.sum_prod_type (f := fun k : Fin 2048 × Fin 20 => Y b k.1 k.2)).symm

omit hX hW hB hσ in
/-- The normalizing factor from the two sums. -/
theorem scale_real (Y : Fin 8 → Fin 2048 → Fin 20 → Fin 128 → ℝ) (o : Fin 128) :
    scale ((∑ k : Edge, Y k.1 k.2.1 k.2.2 o : ℝ) : EReal) ((∑ k : Edge, Y k.1 k.2.1 k.2.2 o * Y k.1 k.2.1 k.2.2 o : ℝ) : EReal) = (inv Y o : EReal) := by
  unfold scale
  rw [word_count, word_eps, div_count, div_count, ← EReal.coe_mul, ← EReal.coe_sub, ← EReal.coe_add]
  have e := var_eq Y o
  unfold mean at e
  rw [e, Ideal.rsqrt_coe, if_neg (not_lt.2 (var_eps_pos Y o).le), if_neg (var_eps_pos Y o).ne']
  rfl

/-- The kernel's result array over real arguments. -/
theorem res_real (b : Fin 8) (o : Fin 128) (n : Fin 2048) :
    res m ρ c (ix3 b o n) = result (conv X W B σ) (fun o => ag m c (ix1 o)) (fun o => ae m c (ix1 o)) b n o := by
  obtain ⟨i₁, h₁, t₁⟩ := top_real m ρ c hX hW hB hσ b n o
  obtain ⟨i₂, h₂, t₂⟩ := bot_real m ρ c hX hW hB hσ b n o
  rw [res_at]
  simp only [tot_real m ρ c hX hW hB hσ, tot2_real m ρ c hX hW hB hσ, ← coe_sum]
  rw [sum_edges fun b n j => conv X W B σ b n j o, sum_edges fun b n j => conv X W B σ b n j o * conv X W B σ b n j o]
  unfold norm
  rw [scale_real, word_count, div_count]
  exact (max_affine (fun j => conv X W B σ b n j o) (mean (conv X W B σ) o) (inv (conv X W B σ) o) (inv_pos _ o) _ _ _ _ i₁ i₂ h₁ h₂ t₁ t₂).symm

end Real

end Cert.KernelIdeal.Arrays

end
-- ==== Proof.RefRead.lean ====
module

public import proofs.«01_k».proof.Proof.Gen.ReferenceIdeal.Run
public import Idealize.ShloMosaic.Lib.Pointwise

@[expose] public section

/-! The reference's result in stages, each stage a function of the argument arrays. -/

set_option maxRecDepth 16384

noncomputable section

namespace Cert.ReferenceIdeal.Stages

open Cert.ReferenceIdeal Cert.ReferenceIdeal.Gen Cert.ReferenceIdeal.Value Idealize.ShloMosaic Idealize.ShloMosaic.TcCoe

variable {F : FTy → Type} [FloatOps F]

/-- The points, one per row. -/
def pts (x : FVec F S8x64x2048 .f32) : FVec F S8x2048x64 .f32 :=
  transpose S8x2048x64 [0, 2, 1] x transposes_S8x64x2048_S8x2048x64_0_2_1

/-- Each point's squared length. -/
def len (x : FVec F S8x64x2048 .f32) : FVec F S8x2048 .f32 :=
  Host.reduceAdd (mulf (pts x) (pts x)) (constant S_ .f32 0x00000000#32) reducesTo_S8x2048x64_S8x2048_d2 h_S_

/-- The negated distances. -/
def nd (x : FVec F S8x64x2048 .f32) : FVec F S8x2048x2048 .f32 :=
  Host.negf (Host.sqrt (maximumf (subf
    (addf (broadcastInDim S8x2048x2048 ![0, 1, 2] bcast_S8x2048x1_S8x2048x2048_0_1_2 (broadcastInDim S8x2048x1 ![0, 1] bcast_S8x2048_S8x2048x1_0_1 (len x)))
      (broadcastInDim S8x2048x2048 ![0, 1, 2] bcast_S8x1x2048_S8x2048x2048_0_1_2 (broadcastInDim S8x1x2048 ![0, 2] bcast_S8x2048_S8x1x2048_0_2 (len x))))
    (mulf (broadcastInDim S8x2048x2048 ![] bcast_S_S8x2048x2048 (constant S_ .f32 0x40000000#32))
      (Host.dotGeneral dot_S8x2048x64_S8x2048x64_S8x2048x2048_2_2_1_1_0_0 none (pts x) (pts x))))
    (broadcastInDim S8x2048x2048 ![] bcast_S_S8x2048x2048 (constant S_ .f32 0x00000000#32))))

/-- The places of the 21 largest negated distances of each row, without the first. -/
def near (x : FVec F S8x64x2048 .f32) : IVec S8x2048x20 32 :=
  extractStridedSlice S8x2048x20 ![0, 0, 1] (Host.topK S8x2048x21 2 (FloatOps.cmpfTotal .gt) (nd x) sliceFits_S8x2048x2048_S8x2048x21).2 slices_S8x2048x21_S8x2048x20_0_0_1

/-- Those places, a negative one counted from the end. -/
def places (x : FVec F S8x64x2048 .f32) : IVec S8x2048x20x1 32 :=
  broadcastInDim S8x2048x20x1 ![0, 1, 2] bcast_S8x2048x20_S8x2048x20x1_0_1_2
    (select (cmpi .slt (near x) (broadcastInDim S8x2048x20 ![] bcast_S_S8x2048x20 (constantI S_ 32 0#32)))
      (addi (near x) (broadcastInDim S8x2048x20 ![] bcast_S_S8x2048x20 (constantI S_ 32 2048#32))) (near x))

/-- The neighbours' points. -/
def nbrs (x : FVec F S8x64x2048 .f32) : FVec F S8x2048x20x64 .f32 :=
  Host.gather gather_S8x2048x64_S8x2048x20x1_S8x2048x20x64_3_1_0_0_1_3_1164 (pts x) (places x)

/-- The points, once per neighbour. -/
def own (x : FVec F S8x64x2048 .f32) : FVec F S8x2048x20x64 .f32 :=
  broadcastInDim S8x2048x20x64 ![0, 1, 2, 3] bcast_S8x2048x1x64_S8x2048x20x64_0_1_2_3 (broadcastInDim S8x2048x1x64 ![0, 1, 3] bcast_S8x2048x64_S8x2048x1x64_0_1_3 (pts x))

/-- A channel's value at every point and neighbour. -/
def chan (v : FVec F S128 .f32) : FVec F S8x2048x20x128 .f32 :=
  broadcastInDim S8x2048x20x128 ![0, 1, 2, 3] bcast_S1x1x1x128_S8x2048x20x128_0_1_2_3 (broadcastInDim S1x1x1x128 ![3] bcast_S128_S1x1x1x128_3 v)

/-- The convolution. -/
def conv (x : FVec F S8x64x2048 .f32) (W : FVec F S128x128 .f32) (b : FVec F S128 .f32) : FVec F S8x2048x20x128 .f32 :=
  addf (Host.dotGeneral dot_S8x2048x20x128_S128x128_S8x2048x20x128_3_1_012_0_n_n none
    (concatenate S8x2048x20x128 3 [⟨S8x2048x20x64, own x⟩, ⟨S8x2048x20x64, subf (nbrs x) (own x)⟩] concatenates_S8x2048x20x64_S8x2048x20x64_S8x2048x20x128_d3) W) (chan b)

/-- The sum of a channel. -/
def total (y : FVec F S8x2048x20x128 .f32) : FVec F S128 .f32 :=
  Host.reduceAdd y (constant S_ .f32 0x00000000#32) reducesTo_S8x2048x20x128_S128_d0_1_2 h_S_

/-- The mean of a channel. -/
def mean (y : FVec F S8x2048x20x128 .f32) : FVec F S128 .f32 :=
  Host.divf (total y) (broadcastInDim S128 ![] bcast_S_S128 (constant S_ .f32 0x48A00000#32))

/-- The distances from the mean, as the variance takes them. -/
def dev (y : FVec F S8x2048x20x128 .f32) : FVec F S8x2048x20x128 .f32 :=
  subf y (broadcastInDim S8x2048x20x128 ![0, 1, 2, 3] bcast_S1x1x1x128_S8x2048x20x128_0_1_2_3
    (Host.divf (broadcastInDim S1x1x1x128 ![3] bcast_S128_S1x1x1x128_3 (total y)) (broadcastInDim S1x1x1x128 ![] bcast_S_S1x1x1x128 (constant S_ .f32 0x48A00000#32))))

/-- The number the variance divides by. -/
def count : FVec F S_ .f32 :=
  subf (constant S_ .f32 0x48A00000#32) (sitofp .f32 (constantI S_ 32 0#32))

/-- The variance of a channel. -/
def var (y : FVec F S8x2048x20x128 .f32) : FVec F S128 .f32 :=
  select (broadcastInDim S128 ![] bcast_S_S128 (cmpf .ogt (count (F := F)) (constant S_ .f32 0x00000000#32)))
    (Host.divf (total (mulf (dev y) (dev y))) (broadcastInDim S128 ![] bcast_S_S128 (count (F := F))))
    (broadcastInDim S128 ![] bcast_S_S128 (id (constant S_ .f32 0x7FC00000#32)))

/-- The normalized and clipped values. -/
def act (y : FVec F S8x2048x20x128 .f32) (g be : FVec F S128 .f32) : FVec F S8x2048x20x128 .f32 :=
  maximumf (addf (mulf (Host.divf (subf y (chan (mean y)))
    (chan (Host.sqrt (addf (var y) (broadcastInDim S128 ![] bcast_S_S128 (constant S_ .f32 0x3727C5AC#32)))))) (chan g)) (chan be))
    (broadcastInDim S8x2048x20x128 ![] bcast_S_S8x2048x20x128 (constant S_ .f32 0x00000000#32))

/-- The result: the largest over the neighbours. -/
def out (y : FVec F S8x2048x20x128 .f32) (g be : FVec F S128 .f32) : FVec F S8x128x2048 .f32 :=
  transpose S8x128x2048 [0, 2, 1] (Host.reduce FloatOps.maximumf (act y g be) (constant S_ .f32 0xFF800000#32) reducesTo_S8x2048x20x128_S8x2048x128_d2 h_S_) transposes_S8x2048x128_S8x128x2048_0_2_1

theorem res_eq (m : (ℓ : Loc nD τ sig) → Buf (Elt F) ℓ) (c : Dev nD) :
    res_main_v55 m c = out (conv (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := rfl

theorem nd_at (x : FVec Ideal S8x64x2048 .f32) (b : Fin 8) (n m : Fin 2048) :
    nd x (ix3 b n m) = -Ideal.sqrt (max (∑ c : Fin 64, x (ix3 b c n) * x (ix3 b c n) + ∑ c : Fin 64, x (ix3 b c m) * x (ix3 b c m)
      - Ideal.ofBits .f32 0x40000000#32 * ∑ c : Fin 64, x (ix3 b c n) * x (ix3 b c m)) 0) := by
  pointwise [nd, len, pts]

theorem conv_at (x : FVec Ideal S8x64x2048 .f32) (W : FVec Ideal S128x128 .f32) (v : FVec Ideal S128 .f32) (b : Fin 8) (n : Fin 2048) (j : Fin 20) (o : Fin 128) :
    conv x W v (ix4 b n j o) = ∑ c : Fin 64, x (ix3 b c n) * W (ix2 o ⟨c.val, by omega⟩)
      + ∑ c : Fin 64, (nbrs x (ix4 b n j c) - x (ix3 b c n)) * W (ix2 o ⟨64 + c.val, by omega⟩) + v (ix1 o) := by
  pointwise [conv, chan, own, pts]

theorem out_at (y : FVec Ideal S8x2048x20x128 .f32) (g be : FVec Ideal S128 .f32) (b : Fin 8) (n : Fin 2048) (o : Fin 128) :
    out y g be (ix3 b o n) = Finset.univ.fold max (Ideal.ofBits .f32 0xFF800000#32) fun j : Fin 20 =>
      max (Ideal.div (y (ix4 b n j o) - mean y (ix1 o)) (Ideal.sqrt (var y (ix1 o) + Ideal.ofBits .f32 0x3727C5AC#32)) * g (ix1 o) + be (ix1 o)) 0 := by
  pointwise [out, act, chan]

theorem mean_at (y : FVec Ideal S8x2048x20x128 .f32) (o : Fin 128) :
    mean y (ix1 o) = Ideal.div (total y (ix1 o)) (Ideal.ofBits .f32 0x48A00000#32) := by
  pointwise [mean]

theorem dev_at (y : FVec Ideal S8x2048x20x128 .f32) (b : Fin 8) (n : Fin 2048) (j : Fin 20) (o : Fin 128) :
    dev y (ix4 b n j o) = y (ix4 b n j o) - Ideal.div (total y (ix1 o)) (Ideal.ofBits .f32 0x48A00000#32) := by
  pointwise [dev]

theorem var_at (y : FVec Ideal S8x2048x20x128 .f32) (o : Fin 128) :
    var y (ix1 o) = if 0 < Ideal.ofBits .f32 0x48A00000#32 - FloatOps.sitofp (F := Ideal) .f32 0#32
      then Ideal.div (total (mulf (dev y) (dev y)) (ix1 o)) (Ideal.ofBits .f32 0x48A00000#32 - FloatOps.sitofp (F := Ideal) .f32 0#32)
      else constant (F := Ideal) S_ .f32 0x7FC00000#32 ix0 := by
  pointwise [var, count]
  rfl

/-- A reduction's inputs for one channel are its points and neighbours. -/
theorem fiber_chan (o : Fin 128) (i : S8x2048x20x128.Idx) :
    reducesTo_S8x2048x20x128_S128_d0_1_2.drop i = ix1 o ↔ ∃ k : Fin 8 × Fin 2048 × Fin 20, ix4 k.1 k.2.1 k.2.2 o = i := by
  constructor
  · intro e
    refine ⟨(i 0, i 1, i 2), funext fun a => Fin.ext ?_⟩
    match a with
    | ⟨0, _⟩ => rfl
    | ⟨1, _⟩ => rfl
    | ⟨2, _⟩ => rfl
    | ⟨3, _⟩ => exact (congrArg Fin.val (congrFun e (0 : Fin 1))).symm
  · rintro ⟨k, rfl⟩
    refine funext fun a => Fin.ext ?_
    match a with
    | ⟨0, _⟩ => rfl

theorem total_at (y : FVec Ideal S8x2048x20x128 .f32) (o : Fin 128) :
    total y (ix1 o) = ∑ k : Fin 8 × Fin 2048 × Fin 20, (y (ix4 k.1 k.2.1 k.2.2 o) : EReal) := by
  pointwise [total]
  unfold Ideal.hostReduceAdd
  rw [zero_add]
  exact Finset.sum_filter_eq_sum_of_fiber _ (fun k : Fin 8 × Fin 2048 × Fin 20 => ix4 k.1 k.2.1 k.2.2 o)
    (fun _ _ e => Prod.ext (congrFun e 0) (Prod.ext (congrFun e 1) (congrFun e 2))) (fiber_chan o) y

end Cert.ReferenceIdeal.Stages

end
-- ==== Proof.Order.lean ====
module

public import proofs.«01_k».proof.Proof.RefRead
public import Idealize.ShloMosaic.Lib.SortFacts

@[expose] public section

/-! The order a row's sort puts its places in, and the reference's neighbours read through it. -/

set_option maxRecDepth 16384

noncomputable section

namespace Cert.ReferenceIdeal.Stages

open Cert.ReferenceIdeal Cert.ReferenceIdeal.Gen Cert.ReferenceIdeal.Value Idealize.ShloMosaic Idealize.ShloMosaic.TcCoe

/-- The places of a row, in the order sorting by decreasing value puts them in. -/
def order (d : FVec Ideal S8x2048x2048 .f32) (b : Fin 8) (n : Fin 2048) : Fin 2048 → Fin 2048 :=
  sortedFrom fun k k' => FloatOps.cmpfTotal (F := Ideal) (φ := .f32) .gt (d (ix3 b n k)) (d (ix3 b n k')) == 1#1

theorem order_surjective (d : FVec Ideal S8x2048x2048 .f32) (b : Fin 8) (n : Fin 2048) : Function.Surjective (order d b n) :=
  sortedFrom_surjective _

theorem gt_iff (x y : Ideal .f32) : (FloatOps.cmpfTotal (F := Ideal) (φ := .f32) .gt x y == 1#1) = decide ((y : EReal) < x) := by
  show (BitVec.ofBool (decide ((y : EReal) < x)) == 1#1) = _
  by_cases h : (y : EReal) < x <;> simp [h]

theorem order_mono (d : FVec Ideal S8x2048x2048 .f32) (b : Fin 8) (n i j : Fin 2048) (h : i ≤ j) :
    (d (ix3 b n (order d b n j)) : EReal) ≤ d (ix3 b n (order d b n i)) := by
  rcases h.lt_or_eq with h | rfl
  · have := sortedFrom_noInversion (fun k k' => FloatOps.cmpfTotal (F := Ideal) (φ := .f32) .gt (d (ix3 b n k)) (d (ix3 b n k')) == 1#1)
      (fun k k' => FloatOps.cmpfTotal (F := Ideal) (φ := .f32) .gt (d (ix3 b n k)) (d (ix3 b n k')) == 1#1)
      (by
        intro k k' e
        simp only [gt_iff, decide_eq_true_eq, decide_eq_false_iff_not] at e ⊢
        exact not_lt.2 e.le)
      (fun _ _ e => e)
      (by
        intro k k' k'' e e'
        simp only [gt_iff, decide_eq_false_iff_not, not_lt] at e e' ⊢
        exact e.trans e') i j h
    rw [gt_iff, decide_eq_false_iff_not, not_lt] at this
    exact this
  · exact le_rfl

theorem along_two (b : Fin 8) (n k k' : Fin 2048) (h : 2 < S8x2048x2048.rank) :
    Shape.Idx.along (s := S8x2048x2048) (ix3 b n k) ⟨2, h⟩ k' = ix3 b n k' := by
  funext a
  match a with
  | ⟨0, _⟩ => rfl
  | ⟨1, _⟩ => rfl
  | ⟨2, _⟩ => rfl

theorem sort_at {β : Type} (d : FVec Ideal S8x2048x2048 .f32) (y : S8x2048x2048.Idx → β) (b : Fin 8) (n k : Fin 2048) :
    (Host.sort2 S8x2048x2048 2 (fun l r => FloatOps.cmpfTotal (F := Ideal) (φ := .f32) .gt l.1 r.1) d y).1 (ix3 b n k) = d (ix3 b n (order d b n k))
    ∧ (Host.sort2 S8x2048x2048 2 (fun l r => FloatOps.cmpfTotal (F := Ideal) (φ := .f32) .gt l.1 r.1) d y).2 (ix3 b n k) = y (ix3 b n (order d b n k)) := by
  unfold Host.sort2
  rw [dif_pos (by decide)]
  have e : ∀ h : 2 < S8x2048x2048.rank, Shape.Idx.along (s := S8x2048x2048) (ix3 b n k) ⟨2, h⟩
      (sortedFrom (fun k₁ k₂ => FloatOps.cmpfTotal (F := Ideal) (φ := .f32) .gt (d (Shape.Idx.along (s := S8x2048x2048) (ix3 b n k) ⟨2, h⟩ k₁))
        (d (Shape.Idx.along (s := S8x2048x2048) (ix3 b n k) ⟨2, h⟩ k₂)) == 1#1) k) = ix3 b n (order d b n k) := fun h => by
    refine (along_two b n k _ h).trans (congrArg (fun f => ix3 b n (sortedFrom f k)) ?_)
    funext k₁ k₂
    exact congrArg₂ (fun i i' => FloatOps.cmpfTotal (F := Ideal) (φ := .f32) .gt (d i) (d i') == 1#1) (along_two b n k k₁ h) (along_two b n k k₂ h)
  exact ⟨congrArg d (e _), congrArg y (e _)⟩

theorem slice_idx {K : ℕ} (h : S8x2048x2048.Slices (fun _ => 0) ⟨3, ![8, 2048, K]⟩) {α : Type} (x : S8x2048x2048.Idx → α)
    (b : Fin 8) (n : Fin 2048) (j : Fin K) (hj : j.val < 2048) :
    extractStridedSlice ⟨3, ![8, 2048, K]⟩ (fun _ => 0) x h (ix3 b n j) = x (ix3 b n ⟨j.val, hj⟩) := by
  unfold extractStridedSlice
  refine congrArg x ?_
  funext a
  refine Fin.ext ?_
  match a with
  | ⟨0, _⟩ => exact Nat.zero_add _
  | ⟨1, _⟩ => exact Nat.zero_add _
  | ⟨2, _⟩ => exact Nat.zero_add _

/-- The largest values of a row: its values in its order. -/
theorem topK_values {K : ℕ} (d : FVec Ideal S8x2048x2048 .f32) (h : S8x2048x2048.Slices (fun _ => 0) ⟨3, ![8, 2048, K]⟩)
    (b : Fin 8) (n : Fin 2048) (j : Fin K) (hj : j.val < 2048) :
    (Host.topK ⟨3, ![8, 2048, K]⟩ 2 (FloatOps.cmpfTotal (F := Ideal) (φ := .f32) .gt) d h).1 (ix3 b n j) = d (ix3 b n (order d b n ⟨j.val, hj⟩)) := by
  unfold Host.topK
  dsimp only
  rw [slice_idx h _ b n j hj, (sort_at d _ b n _).1]

/-- The places of the largest values of a row: its order. -/
theorem topK_places {K : ℕ} (d : FVec Ideal S8x2048x2048 .f32) (h : S8x2048x2048.Slices (fun _ => 0) ⟨3, ![8, 2048, K]⟩)
    (b : Fin 8) (n : Fin 2048) (j : Fin K) (hj : j.val < 2048) :
    (Host.topK ⟨3, ![8, 2048, K]⟩ 2 (FloatOps.cmpfTotal (F := Ideal) (φ := .f32) .gt) d h).2 (ix3 b n j) = BitVec.ofNat 32 (order d b n ⟨j.val, hj⟩).val := by
  unfold Host.topK
  dsimp only
  rw [slice_idx h _ b n j hj, (sort_at d _ b n _).2, dif_pos (by decide)]
  rfl

theorem toInt_place (k : Fin 2048) : (BitVec.ofNat 32 k.val).toInt = k.val := by
  have hk := k.isLt
  rw [BitVec.toInt_eq_toNat_of_lt] <;> rw [BitVec.toNat_ofNat] <;> omega

theorem near_at (x : FVec Ideal S8x64x2048 .f32) (b : Fin 8) (n : Fin 2048) (j : Fin 20) :
    near x (ix3 b n j) = BitVec.ofNat 32 (order (nd x) b n ⟨1 + j.val, by omega⟩).val := by
  pointwise [near]
  exact topK_places (nd x) sliceFits_S8x2048x2048_S8x2048x21 b n ⟨1 + j.val, by omega⟩ (by show 1 + j.val < 2048; omega)

theorem places_at (x : FVec Ideal S8x64x2048 .f32) (b : Fin 8) (n : Fin 2048) (j : Fin 20) :
    places x (ix4 b n j 0) = BitVec.ofNat 32 (order (nd x) b n ⟨1 + j.val, by omega⟩).val := by
  pointwise [places]
  rw [near_at]
  generalize order (nd x) b n ⟨1 + j.val, by omega⟩ = k
  have : IntOp.cmpi .slt (BitVec.ofNat 32 k.val) 0#32 = 0#1 := by
    have e : (BitVec.ofNat 32 k.val).slt 0#32 = false := by
      rw [BitVec.slt_eq_decide, decide_eq_false_iff_not, toInt_place]
      exact not_lt.2 (Int.natCast_nonneg _)
    simp only [IntOp.cmpi, e]
    rfl
  rw [this]; rfl

theorem nbrs_at (x : FVec Ideal S8x64x2048 .f32) (b : Fin 8) (n : Fin 2048) (j : Fin 20) (c : Fin 64) :
    nbrs x (ix4 b n j c) = x (ix3 b c (order (nd x) b n ⟨1 + j.val, by omega⟩)) := by
  have hk := (order (nd x) b n ⟨1 + j.val, by omega⟩).isLt
  have key : nbrs x (ix4 b n j c) = pts x (ix3 b (order (nd x) b n ⟨1 + j.val, by omega⟩) c) := by
    unfold nbrs Host.gather
    congr 1
    funext a
    refine Fin.ext ?_
    show GatherDims.start _ _ _ a + GatherDims.batchCoord _ _ a + GatherDims.offCoord _ _ a = _
    match a with
    | ⟨0, _⟩ =>
      rw [GatherDims.start_batching _ _ _ _ (by decide +revert), GatherDims.offCoord_eq_zero _ _ _ (by decide +revert)]
      unfold GatherDims.batchCoord
      rw [dif_pos (by decide +revert), Nat.zero_add, Nat.add_zero]
      rfl
    | ⟨1, _⟩ =>
      rw [GatherDims.batchCoord_eq_zero _ _ _ (by decide +revert), GatherDims.offCoord_eq_zero _ _ _ (by decide +revert)]
      unfold GatherDims.start
      rw [dif_pos (by decide +revert)]
      have e : ∀ i, i = ix4 b n j 0 → (places x i).toInt.toNat = (order (nd x) b n ⟨1 + j.val, by omega⟩).val := by
        rintro _ rfl
        rw [places_at, toInt_place, Int.toNat_natCast]
      rw [e]
      · show min _ 2047 + 0 + 0 = _
        simp only [ix3]
        show _ = (order (nd x) b n ⟨1 + j.val, by omega⟩).val
        omega
      · funext a
        refine Fin.ext ?_
        match a with
        | ⟨0, _⟩ => rfl
        | ⟨1, _⟩ => rfl
        | ⟨2, _⟩ => rfl
        | ⟨3, _⟩ => rfl
    | ⟨2, _⟩ =>
      rw [GatherDims.batchCoord_eq_zero _ _ _ (by decide +revert)]
      unfold GatherDims.start GatherDims.offCoord
      rw [dif_neg (by decide +revert), dif_pos (by decide +revert)]
      show 0 + 0 + c.val = c.val
      omega
  rw [key]
  pointwise [pts]

end Cert.ReferenceIdeal.Stages

end
-- ==== Proof.RefValue.lean ====
module

public import proofs.«01_k».proof.Proof.Order
public import proofs.«01_k».proof.Proof.Words

@[expose] public section

/-! The reference's result array as the function of `Math.lean`, when the arguments are real. -/

set_option maxRecDepth 16384

noncomputable section

namespace Cert.ReferenceIdeal.Stages

open Cert.ReferenceIdeal Cert.ReferenceIdeal.Gen Cert.ReferenceIdeal.Value Idealize.ShloMosaic Idealize.ShloMosaic.TcCoe
open Cert.EdgeConv (sqd Ordered eps Edge coe_sum word_bot word_two word_count word_eps sitofp_zero div_count var_eps_pos sq_dist)

section Distances
variable (x : FVec Ideal S8x64x2048 .f32) {X : Fin 8 → Fin 2048 → Fin 64 → ℝ}
variable (hX : ∀ b n k, (x (ix3 b k n) : EReal) = X b n k)
include hX

theorem dist_nonneg (b : Fin 8) (n m : Fin 2048) : 0 ≤ ∑ k, X b n k * X b n k + sqd X b n m := by
  unfold sqd
  rw [← add_sub_assoc]
  exact sq_dist _ _

theorem nd_real (b : Fin 8) (n m : Fin 2048) : (nd x (ix3 b n m) : EReal) = ((-Real.sqrt (∑ k, X b n k * X b n k + sqd X b n m) : ℝ) : EReal) := by
  have e : ∀ i j, ∑ k : Fin 64, (x (ix3 b k i) * x (ix3 b k j) : EReal) = ((∑ k, X b i k * X b j k : ℝ) : EReal) := fun i j => by
    rw [coe_sum]
    exact Finset.sum_congr rfl fun k _ => by rw [hX, hX, EReal.coe_mul]
  have h := dist_nonneg x hX b n m
  rw [nd_at, e, e, e, word_two, ← EReal.coe_mul, ← EReal.coe_add, ← EReal.coe_sub, add_sub_assoc]
  change -Ideal.sqrt (max ((∑ k, X b n k * X b n k + sqd X b n m : ℝ) : EReal) ((0 : ℝ) : EReal)) = _
  rw [max_eq_left (EReal.coe_le_coe_iff.2 h), Ideal.sqrt_coe, if_neg (not_lt.2 h), EReal.coe_neg]

theorem nd_le (b : Fin 8) (n m m' : Fin 2048) : ((nd x (ix3 b n m') : EReal) ≤ nd x (ix3 b n m)) ↔ sqd X b n m ≤ sqd X b n m' := by
  rw [nd_real x hX, nd_real x hX, EReal.coe_le_coe_iff, neg_le_neg_iff, Real.sqrt_le_sqrt_iff (dist_nonneg x hX b n m'), add_le_add_iff_left]

/-- The places of a row, when no two of its largest negated distances are equal. -/
theorem ordered (b : Fin 8) (n : Fin 2048)
    (hs : ∀ a : Fin 21, (nd x (ix3 b n (order (nd x) b n ⟨1 + a.val, by omega⟩)) : EReal) < nd x (ix3 b n (order (nd x) b n ⟨a.val, by omega⟩))) :
    Ordered 21 (sqd X b n) (order (nd x) b n) where
  surj := order_surjective _ _ _
  mono a a' h := (nd_le x hX b n _ _).1 (order_mono _ _ _ _ _ h)
  strict a a' h e := by
    have h' := hs ⟨a.val, h⟩
    have : a' = ⟨1 + a.val, by omega⟩ := Fin.ext (by rw [e]; exact Nat.add_comm _ _)
    rw [← not_le, nd_le x hX, not_le] at h'
    rw [this]
    exact h'

end Distances

/-! ### An infinite coordinate makes ties -/

theorem square_nonneg (a : EReal) : 0 ≤ a * a := by
  induction a using EReal.rec with
  | coe r => rw [← EReal.coe_mul]; exact EReal.coe_nonneg.2 (mul_self_nonneg r)
  | bot => simp
  | top => simp

/-- A point with an infinite coordinate is at distance zero or infinity from every point. -/
theorem nd_infinite (x : FVec Ideal S8x64x2048 .f32) (b : Fin 8) (n : Fin 2048) (k : Fin 64)
    (h : (x (ix3 b k n) : EReal) * x (ix3 b k n) = ⊤) (m : Fin 2048) : (nd x (ix3 b n m) : EReal) = 0 ∨ (nd x (ix3 b n m) : EReal) = ⊥ := by
  have hn : ∑ k : Fin 64, (x (ix3 b k n) : EReal) * x (ix3 b k n) = ⊤ :=
    top_le_iff.1 (h ▸ Finset.single_le_sum (f := fun k : Fin 64 => (x (ix3 b k n) : EReal) * x (ix3 b k n)) (fun k _ => square_nonneg _) (Finset.mem_univ k))
  have hm : ∑ k : Fin 64, (x (ix3 b k m) : EReal) * x (ix3 b k m) ≠ ⊥ := fun e => by
    have l := Finset.sum_nonneg (s := Finset.univ) (f := fun k : Fin 64 => (x (ix3 b k m) : EReal) * x (ix3 b k m)) fun k _ => square_nonneg _
    exact absurd (e ▸ l) (by simp)
  rw [nd_at, hn, EReal.top_add_of_ne_bot hm]
  generalize (Ideal.ofBits .f32 0x40000000#32 * ∑ c : Fin 64, (x (ix3 b c n) : EReal) * x (ix3 b c m) : EReal) = z
  have zero : (-Ideal.sqrt (max ⊥ 0) : EReal) = 0 := by
    rw [max_eq_right bot_le]
    change -Ideal.sqrt ((0 : ℝ) : EReal) = 0
    rw [Ideal.sqrt_coe, if_neg (lt_irrefl _), Real.sqrt_zero, EReal.coe_zero, neg_zero]
  induction z using EReal.rec with
  | coe r => exact .inr (by simp)
  | bot => exact .inr (by simp)
  | top => exact .inl (by rw [EReal.sub_top]; exact zero)

/-- So its row repeats a distance among its first three. -/
theorem real_of_lt (x : FVec Ideal S8x64x2048 .f32) (b : Fin 8) (n : Fin 2048) (k : Fin 64) (i₀ i₁ i₂ : Fin 2048)
    (h₁ : (nd x (ix3 b n i₁) : EReal) < nd x (ix3 b n i₀)) (h₂ : (nd x (ix3 b n i₂) : EReal) < nd x (ix3 b n i₁)) : ∃ r : ℝ, (x (ix3 b k n) : EReal) = r := by
  have no : ¬(x (ix3 b k n) : EReal) * x (ix3 b k n) = ⊤ := fun h => by
    rcases nd_infinite x b n k h i₁ with e | e
    · rw [e] at h₁
      rcases nd_infinite x b n k h i₀ with e' | e' <;> rw [e'] at h₁ <;> simp at h₁
    · rw [e] at h₂
      exact not_lt_bot h₂
  generalize (x (ix3 b k n) : EReal) = a at no ⊢
  induction a using EReal.rec with
  | coe r => exact ⟨r, rfl⟩
  | bot => exact absurd (by simp) no
  | top => exact absurd (by simp) no

section Result
variable (x : FVec Ideal S8x64x2048 .f32) (w : FVec Ideal S128x128 .f32) (v : FVec Ideal S128 .f32)
variable {X : Fin 8 → Fin 2048 → Fin 64 → ℝ} {W : Fin 128 → Fin 128 → ℝ} {B : Fin 128 → ℝ}
variable (hX : ∀ b n k, (x (ix3 b k n) : EReal) = X b n k) (hW : ∀ o k, (w (ix2 o k) : EReal) = W o k) (hB : ∀ o, (v (ix1 o) : EReal) = B o)

include hX hW hB in
theorem conv_real (b : Fin 8) (n : Fin 2048) (j : Fin 20) (o : Fin 128) :
    (conv x w v (ix4 b n j o) : EReal) = EdgeConv.conv X W B (order (nd x)) b n j o := by
  rw [conv_at]
  unfold EdgeConv.conv
  rw [hB, EReal.coe_add, EReal.coe_add, coe_sum, coe_sum]
  refine congrArg (· + _) (congrArg₂ (· + ·) (Finset.sum_congr rfl fun k _ => ?_) (Finset.sum_congr rfl fun k _ => ?_))
  · rw [hX, hW, EReal.coe_mul]
  · rw [nbrs_at, hX, hX, hW, EReal.coe_mul, EReal.coe_sub]

variable (y : FVec Ideal S8x2048x20x128 .f32) {Y : Fin 8 → Fin 2048 → Fin 20 → Fin 128 → ℝ} (hY : ∀ b n j o, (y (ix4 b n j o) : EReal) = Y b n j o)

include hY

theorem total_real (o : Fin 128) : (total y (ix1 o) : EReal) = ((∑ k : Edge, Y k.1 k.2.1 k.2.2 o : ℝ) : EReal) := by
  rw [total_at, coe_sum]
  exact Finset.sum_congr rfl fun k _ => hY _ _ _ _

theorem mean_real (o : Fin 128) : (mean y (ix1 o) : EReal) = EdgeConv.mean Y o := by
  rw [mean_at, total_real y hY, word_count, div_count]
  rfl

theorem dev_real (b : Fin 8) (n : Fin 2048) (j : Fin 20) (o : Fin 128) : (dev y (ix4 b n j o) : EReal) = ((Y b n j o - EdgeConv.mean Y o : ℝ) : EReal) := by
  rw [dev_at, hY, total_real y hY, word_count, div_count, EReal.coe_sub]
  rfl

theorem var_real (o : Fin 128) : (var y (ix1 o) : EReal) = EdgeConv.var Y o := by
  have e : ((327680 : ℝ) : EReal) - 0 = ((327680 : ℝ) : EReal) := sub_zero _
  rw [var_at, word_count, sitofp_zero, e, if_pos (EReal.coe_pos.2 (by norm_num)),
    total_real (mulf (dev y) (dev y)) (Y := fun b n j o => (Y b n j o - EdgeConv.mean Y o) * (Y b n j o - EdgeConv.mean Y o)) (fun b n j o => by
      rw [EReal.coe_mul, ← dev_real y hY]; rfl), div_count]
  rfl

theorem out_real (g be : FVec Ideal S128 .f32) (b : Fin 8) (o : Fin 128) (n : Fin 2048) :
    (out y g be (ix3 b o n) : EReal) = EdgeConv.result Y (fun o => g (ix1 o)) (fun o => be (ix1 o)) b n o := by
  have h := var_eps_pos Y o
  rw [out_at, word_bot, word_eps, mean_real y hY, var_real y hY, ← EReal.coe_add, Ideal.sqrt_coe, if_neg (not_lt.2 h.le)]
  unfold EdgeConv.result
  refine congrArg (fun f => Finset.univ.fold max ⊥ f) (funext fun j => ?_)
  rw [hY, Ideal.div_coe (Real.sqrt_pos.2 h).ne', EReal.coe_sub, one_div]
  rfl

end Result

end Cert.ReferenceIdeal.Stages

end
-- ==== Proof.PreRead.lean ====
module

public import proofs.«01_k».proof.Proof.RefValue
public import proofs.«01_k».proof.Pre_finite_no_tie

@[expose] public section

/-! What the precondition says of the arguments. -/

set_option maxRecDepth 16384

noncomputable section

namespace Cert.Pre_finite_no_tie

open Idealize.ShloMosaic

theorem facts : Facts where
  transposes_S8x64x2048_S8x2048x64_0_2_1 := by decide
  reducesTo_S8x2048x64_S8x2048_d2 := by decide
  h_S_ := by decide
  bcast_S8x2048_S8x2048x1_0_1 := by decide
  bcast_S8x2048_S8x1x2048_0_2 := by decide
  bcast_S8x2048x1_S8x2048x2048_0_1_2 := by decide
  bcast_S8x1x2048_S8x2048x2048_0_1_2 := by decide
  bcast_S_S8x2048x2048 := by decide
  sliceFits_S8x2048x2048_S8x2048x22 := by decide
  bcast_S_S128x128 := by decide
  bcast_S_S128 := by decide
  slices_S8x2048x22_S8x2048x21_0_0_0 := by decide
  slices_S8x2048x22_S8x2048x21_0_0_1 := by decide
  dot_S8x2048x64_S8x2048x64_S8x2048x2048_2_2_1_1_0_0_wf := by decide

/-- A value whose size is below the infinite word is real. -/
theorem real_of_abs (a : EReal) (h : Ideal.cmp .olt (max a (-a)) (Ideal.ofBits .f32 0x7F800000#32) = 1#1) : ∃ r : ℝ, a = r := by
  rw [EdgeConv.word_top] at h
  induction a using EReal.rec with
  | coe r => exact ⟨r, rfl⟩
  | bot => exact absurd h (by simp [Ideal.cmp])
  | top => exact absurd h (by simp [Ideal.cmp])

/-- A comparison that reads one holds. -/
theorem lt_of_gt (a b : EReal) (h : Ideal.cmp .ogt a b = 1#1) : b < a := by
  by_contra hn
  exact absurd h (by simp [Ideal.cmp, hn])

section
variable [Facts]
variable (x : FVec Ideal S8x64x2048 .f32) (w : FVec Ideal S128x128 .f32) (v g e : FVec Ideal S128 .f32)

theorem real_w (h : (fn x w v g e).1 = fun _ => 1#1) (i : S128x128.Idx) : ∃ r : ℝ, (w i : EReal) = r := real_of_abs _ (congrFun h i)
theorem real_b (h : (fn x w v g e).2.1 = fun _ => 1#1) (i : S128.Idx) : ∃ r : ℝ, (v i : EReal) = r := real_of_abs _ (congrFun h i)

/-- No two of a row's largest negated distances are equal. -/
theorem no_tie (h : (fn x w v g e).2.2 = fun _ => 1#1) (b : Fin 8) (n : Fin 2048) (a : Fin 21) :
    (ReferenceIdeal.Stages.nd x (ix3 b n (ReferenceIdeal.Stages.order (ReferenceIdeal.Stages.nd x) b n ⟨1 + a.val, by omega⟩)) : EReal)
      < ReferenceIdeal.Stages.nd x (ix3 b n (ReferenceIdeal.Stages.order (ReferenceIdeal.Stages.nd x) b n ⟨a.val, by omega⟩)) := by
  have h' := congrFun h (ix3 b n a)
  change cmpf (F := Ideal) .ogt
    (extractStridedSlice S8x2048x21 ![0, 0, 0] (Host.topK S8x2048x22 2 (FloatOps.cmpfTotal (F := Ideal) (φ := .f32) .gt) (ReferenceIdeal.Stages.nd x) Facts.sliceFits_S8x2048x2048_S8x2048x22).1 Facts.slices_S8x2048x22_S8x2048x21_0_0_0)
    (extractStridedSlice S8x2048x21 ![0, 0, 1] (Host.topK S8x2048x22 2 (FloatOps.cmpfTotal (F := Ideal) (φ := .f32) .gt) (ReferenceIdeal.Stages.nd x) Facts.sliceFits_S8x2048x2048_S8x2048x22).1 Facts.slices_S8x2048x22_S8x2048x21_0_0_1)
    (ix3 b n a) = 1#1 at h'
  have l := lt_of_gt _ _ h'
  have slice : ∀ (k : ℕ) (hk : k + 21 ≤ 22) (hs : S8x2048x22.Slices ![0, 0, k] S8x2048x21) (z : FVec Ideal S8x2048x22 .f32),
      extractStridedSlice S8x2048x21 ![0, 0, k] z hs (ix3 b n a) = z (ix3 b n ⟨k + a.val, by omega⟩) := by
    intro k hk hs z
    unfold extractStridedSlice
    refine congrArg z (funext fun i => Fin.ext ?_)
    match i with
    | ⟨0, _⟩ => exact Nat.zero_add _
    | ⟨1, _⟩ => exact Nat.zero_add _
    | ⟨2, _⟩ => rfl
  rw [slice 0 (by omega), slice 1 (by omega)] at l
  have e := ReferenceIdeal.Stages.topK_values (K := 22) (ReferenceIdeal.Stages.nd x) Facts.sliceFits_S8x2048x2048_S8x2048x22 b n
  rw [e ⟨1 + a.val, by omega⟩ (by show 1 + a.val < 2048; omega), e ⟨0 + a.val, by omega⟩ (by show 0 + a.val < 2048; omega)] at l
  simpa only [Nat.zero_add] using l

theorem real_x (h : (fn x w v g e).2.2 = fun _ => 1#1) (b : Fin 8) (n : Fin 2048) (k : Fin 64) : ∃ r : ℝ, (x (ix3 b k n) : EReal) = r :=
  ReferenceIdeal.Stages.real_of_lt x b n k _ _ _ (no_tie x w v g e h b n 0) (no_tie x w v g e h b n 1)
end

end Cert.Pre_finite_no_tie

end
-- ==== Proof.lean ====
module

public import proofs.«01_k».proof.Defs
public import proofs.«01_k».proof.Proof.Gen.Kernel.Frame
public import proofs.«01_k».proof.Proof.Launched
public import proofs.«01_k».proof.Proof.KernelValue
public import proofs.«01_k».proof.Proof.PreRead
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference's run leaves its arguments unchanged; it has no semaphores. -/
theorem frame_r : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- Under the precondition the two programs' results are one array. -/
theorem same (m : (ℓ : Loc Cert.KernelIdeal.nD Cert.KernelIdeal.τ Cert.KernelIdeal.sig) → Buf (Elt Ideal) ℓ) (ρ : Dev Cert.KernelIdeal.nD → PrngReg)
    (h : Cert.Pre_KernelIdeal_finite_no_tie (hPre_finite_no_tie := Cert.Pre_finite_no_tie.facts) m) (c : Dev Cert.KernelIdeal.nD) :
    (ReferenceIdeal.Stages.out (F := Ideal) (ReferenceIdeal.Stages.conv (F := Ideal) (KernelIdeal.Arrays.ax m c) (KernelIdeal.Arrays.aW m c) (KernelIdeal.Arrays.ab m c))
      (KernelIdeal.Arrays.ag m c) (KernelIdeal.Arrays.ae m c) : KernelIdeal.S8x128x2048.Idx → EReal) = KernelIdeal.Arrays.res m ρ c := by
  letI := Cert.Pre_finite_no_tie.facts
  obtain ⟨hw, hb, ht⟩ := h c
  choose X hX using fun (b : Fin 8) (n : Fin 2048) (k : Fin 64) => Cert.Pre_finite_no_tie.real_x _ _ _ _ _ ht b n k
  choose W hW using fun (o k : Fin 128) => Cert.Pre_finite_no_tie.real_w _ _ _ _ _ hw (ix2 o k)
  choose B hB using fun (o : Fin 128) => Cert.Pre_finite_no_tie.real_b _ _ _ _ _ hb (ix1 o)
  have hσ := fun b n => ReferenceIdeal.Stages.ordered (KernelIdeal.Arrays.ax m c) hX b n (Cert.Pre_finite_no_tie.no_tie _ _ _ _ _ ht b n)
  funext i
  have e : i = ix3 (i 0) (i 1) (i 2) := funext fun a => by fin_cases a <;> rfl
  rw [e]
  refine (ReferenceIdeal.Stages.out_real _ (ReferenceIdeal.Stages.conv_real _ _ _ hX hW hB) _ _ (i 0) (i 1) (i 2)).trans ?_
  exact (KernelIdeal.Arrays.res_real m ρ c hX hW hB hσ (i 0) (i 1) (i 2)).symm

theorem value : Cert.algebraic_KernelIdeal_ReferenceIdeal_pre_finite_no_tie (hKernelIdeal := Cert.KernelIdeal.Gen.facts)
    (hReferenceIdeal := Cert.ReferenceIdeal.Gen.facts) (hPre_finite_no_tie := Cert.Pre_finite_no_tie.facts) := by
  intro m g m' g' h agree
  refine ⟨fun c => KernelIdeal.Arrays.res m g c, Cert.KernelIdeal.Launched.run m g, ?_⟩
  refine (θ_run Cert.ReferenceIdeal.defs _ _).mono (fun r hr c => ⟨?_, (hr c).2⟩) (Cert.ReferenceIdeal.Value.run (F := Ideal) m' g')
  obtain ⟨a0, a1, a2, a3, a4⟩ := agree c
  rw [(hr c).1, ReferenceIdeal.Stages.res_eq, a0, a1, a2, a3, a4]
  exact same m g h c

theorem claim : Cert.Claim :=
  ⟨Cert.Kernel.Gen.facts, Cert.KernelIdeal.Gen.facts, Cert.ReferenceIdeal.Gen.facts, Cert.Pre_finite_no_tie.facts,
    fun m ρ _ => Cert.Kernel.Gen.frame m ρ, fun m ρ _ => Cert.KernelIdeal.Gen.frame m ρ, fun m ρ _ => Cert.KernelIdeal.Gen.frame m ρ,
    frame_r, fun m ρ _ => frame_r m ρ trivial, trivial, value⟩

end Cert.Proof

end
